-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S1024x512 : Shape := ⟨2, ![1024, 512]⟩
abbrev S16 : Shape := ⟨1, ![16]⟩
abbrev S_ : Shape := ⟨0, ![]⟩
abbrev S64x512 : Shape := ⟨2, ![64, 512]⟩
abbrev S1 : Shape := ⟨1, ![1]⟩
abbrev S2048x512 : Shape := ⟨2, ![2048, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S4096x512, .bf16⟩
  | .local _ .vmem, ⟨0, _⟩ => ⟨S2048x1024, .bf16⟩
  | .local _ .vmem, ⟨1, _⟩ => ⟨S4096x512, .bf16⟩
  | .local _ .vmem, ⟨2, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v22 : BitVec 32 := Scalar.muli v9 c16_i32_10
  let v23 : BitVec 32 := Scalar.addi c0_i32_11 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v24 : BitVec 32 := Scalar.muli v5 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev2 (d0 : Dev nD) : Nat :=
  let c0_i32_16 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15 : BitVec 32 := 16#32
  let v28 : BitVec 32 := Scalar.muli v2 c16_i32_15
  let v29 : BitVec 32 := Scalar.addi c0_i32_16 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_17 : BitVec 32 := 4#32
  let v30 : BitVec 32 := Scalar.muli v20 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
def k0_off1 (d0 : Dev nD) (c0_i32_19 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1024_i32 : BitVec 32 := 1024#32
  let v34 : BitVec 32 := Scalar.muli v19 c1024_i32
  let v35 : BitVec 32 := Scalar.addi v34 c0_i32_19
  let v37 : Index := Scalar.indexCast v35
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v36 : BitVec 32 := Scalar.muli v9 c512_i32
  let v38 : Index := Scalar.indexCast v36
  ![v37.toNat, v38.toNat]
def k0_off2 (d0 : Dev nD) (c0_i32_23 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v44 : BitVec 32 := Scalar.muli v2 c2048_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1024_i32_22 : BitVec 32 := 1024#32
  let v45 : BitVec 32 := Scalar.muli v19 c1024_i32_22
  let v46 : BitVec 32 := Scalar.addi v44 v45
  let v47 : BitVec 32 := Scalar.addi v46 c0_i32_23
  let c0_i32_30 : BitVec 32 := 0#32
  ![v47.toNat, 0]
def k0_dev3 (d0 : Dev nD) : Nat :=
  let c0_i32_27 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_26 : BitVec 32 := 16#32
  let v48 : BitVec 32 := Scalar.muli v9 c16_i32_26
  let v49 : BitVec 32 := Scalar.addi c0_i32_27 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v50 : BitVec 32 := Scalar.muli v5 c4_i32_28
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v52 : BitVec 32 := Scalar.muli v8 c1_i32_29
  let v53 : BitVec 32 := Scalar.addi v51 v52
  v53.toNat
def k0_dev4 (d0 : Dev nD) : Nat :=
  let c0_i32_42 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_41 : BitVec 32 := 16#32
  let v74 : BitVec 32 := Scalar.muli v9 c16_i32_41
  let v75 : BitVec 32 := Scalar.addi c0_i32_42 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v76 : BitVec 32 := Scalar.muli v5 c4_i32_43
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v78 : BitVec 32 := Scalar.muli v8 c1_i32_44
  let v79 : BitVec 32 := Scalar.addi v77 v78
  v79.toNat
def k0_dev5 (d0 : Dev nD) : Nat :=
  let c0_i32_57 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_56 : BitVec 32 := 16#32
  let v100 : BitVec 32 := Scalar.muli v9 c16_i32_56
  let v101 : BitVec 32 := Scalar.addi c0_i32_57 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v102 : BitVec 32 := Scalar.muli v5 c4_i32_58
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v104 : BitVec 32 := Scalar.muli v8 c1_i32_59
  let v105 : BitVec 32 := Scalar.addi v103 v104
  v105.toNat
def k0_dev6 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v126 : BitVec 32 := Scalar.muli v9 c16_i32_70
  let v127 : BitVec 32 := Scalar.addi c0_i32_71 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v128 : BitVec 32 := Scalar.muli v5 c4_i32_72
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v130 : BitVec 32 := Scalar.muli v8 c1_i32_73
  let v131 : BitVec 32 := Scalar.addi v129 v130
  v131.toNat
def k0_dev7 (d0 : Dev nD) : Nat :=
  let c0_i32_86 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_85 : BitVec 32 := 16#32
  let v152 : BitVec 32 := Scalar.muli v9 c16_i32_85
  let v153 : BitVec 32 := Scalar.addi c0_i32_86 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v154 : BitVec 32 := Scalar.muli v5 c4_i32_87
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v156 : BitVec 32 := Scalar.muli v8 c1_i32_88
  let v157 : BitVec 32 := Scalar.addi v155 v156
  v157.toNat
def k0_dev8 (d0 : Dev nD) : Nat :=
  let c0_i32_100 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_99 : BitVec 32 := 16#32
  let v178 : BitVec 32 := Scalar.muli v9 c16_i32_99
  let v179 : BitVec 32 := Scalar.addi c0_i32_100 v178
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v180 : BitVec 32 := Scalar.muli v5 c4_i32_101
  let v181 : BitVec 32 := Scalar.addi v179 v180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v182 : BitVec 32 := Scalar.muli v8 c1_i32_102
  let v183 : BitVec 32 := Scalar.addi v181 v182
  v183.toNat
def k0_dev9 (d0 : Dev nD) : Nat :=
  let c0_i32_114 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_113 : BitVec 32 := 16#32
  let v204 : BitVec 32 := Scalar.muli v9 c16_i32_113
  let v205 : BitVec 32 := Scalar.addi c0_i32_114 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v206 : BitVec 32 := Scalar.muli v5 c4_i32_115
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v208 : BitVec 32 := Scalar.muli v8 c1_i32_116
  let v209 : BitVec 32 := Scalar.addi v207 v208
  v209.toNat
def k0_dev10 (d0 : Dev nD) : Nat :=
  let c0_i32_128 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_127 : BitVec 32 := 16#32
  let v230 : BitVec 32 := Scalar.muli v9 c16_i32_127
  let v231 : BitVec 32 := Scalar.addi c0_i32_128 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_129 : BitVec 32 := 4#32
  let v232 : BitVec 32 := Scalar.muli v5 c4_i32_129
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v234 : BitVec 32 := Scalar.muli v8 c1_i32_130
  let v235 : BitVec 32 := Scalar.addi v233 v234
  v235.toNat
def k0_dev11 (d0 : Dev nD) : Nat :=
  let c0_i32_143 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_142 : BitVec 32 := 16#32
  let v256 : BitVec 32 := Scalar.muli v9 c16_i32_142
  let v257 : BitVec 32 := Scalar.addi c0_i32_143 v256
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v258 : BitVec 32 := Scalar.muli v5 c4_i32_144
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v260 : BitVec 32 := Scalar.muli v8 c1_i32_145
  let v261 : BitVec 32 := Scalar.addi v259 v260
  v261.toNat
def k0_dev12 (d0 : Dev nD) : Nat :=
  let c0_i32_157 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_156 : BitVec 32 := 16#32
  let v282 : BitVec 32 := Scalar.muli v9 c16_i32_156
  let v283 : BitVec 32 := Scalar.addi c0_i32_157 v282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_158 : BitVec 32 := 4#32
  let v284 : BitVec 32 := Scalar.muli v5 c4_i32_158
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v286 : BitVec 32 := Scalar.muli v8 c1_i32_159
  let v287 : BitVec 32 := Scalar.addi v285 v286
  v287.toNat
def k0_dev13 (d0 : Dev nD) : Nat :=
  let c0_i32_171 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_170 : BitVec 32 := 16#32
  let v308 : BitVec 32 := Scalar.muli v9 c16_i32_170
  let v309 : BitVec 32 := Scalar.addi c0_i32_171 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v310 : BitVec 32 := Scalar.muli v5 c4_i32_172
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v312 : BitVec 32 := Scalar.muli v8 c1_i32_173
  let v313 : BitVec 32 := Scalar.addi v311 v312
  v313.toNat
def k0_dev14 (d0 : Dev nD) : Nat :=
  let c0_i32_185 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_184 : BitVec 32 := 16#32
  let v334 : BitVec 32 := Scalar.muli v9 c16_i32_184
  let v335 : BitVec 32 := Scalar.addi c0_i32_185 v334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_186 : BitVec 32 := 4#32
  let v336 : BitVec 32 := Scalar.muli v5 c4_i32_186
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v338 : BitVec 32 := Scalar.muli v8 c1_i32_187
  let v339 : BitVec 32 := Scalar.addi v337 v338
  v339.toNat
def k0_dev15 (d0 : Dev nD) : Nat :=
  let c0_i32_199 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_198 : BitVec 32 := 16#32
  let v360 : BitVec 32 := Scalar.muli v9 c16_i32_198
  let v361 : BitVec 32 := Scalar.addi c0_i32_199 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_200 : BitVec 32 := 4#32
  let v362 : BitVec 32 := Scalar.muli v5 c4_i32_200
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v364 : BitVec 32 := Scalar.muli v8 c1_i32_201
  let v365 : BitVec 32 := Scalar.addi v363 v364
  v365.toNat
def k0_dev16 (d0 : Dev nD) : Nat :=
  let c0_i32_213 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_212 : BitVec 32 := 16#32
  let v386 : BitVec 32 := Scalar.muli v9 c16_i32_212
  let v387 : BitVec 32 := Scalar.addi c0_i32_213 v386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_214 : BitVec 32 := 4#32
  let v388 : BitVec 32 := Scalar.muli v5 c4_i32_214
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v390 : BitVec 32 := Scalar.muli v8 c1_i32_215
  let v391 : BitVec 32 := Scalar.addi v389 v390
  v391.toNat
def k0_dev17 (d0 : Dev nD) : Nat :=
  let c0_i32_227 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_226 : BitVec 32 := 16#32
  let v412 : BitVec 32 := Scalar.muli v9 c16_i32_226
  let v413 : BitVec 32 := Scalar.addi c0_i32_227 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_228 : BitVec 32 := 4#32
  let v414 : BitVec 32 := Scalar.muli v5 c4_i32_228
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v416 : BitVec 32 := Scalar.muli v8 c1_i32_229
  let v417 : BitVec 32 := Scalar.addi v415 v416
  v417.toNat
def k0_dev18 (d0 : Dev nD) : Nat :=
  let c0_i32_241 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_240 : BitVec 32 := 16#32
  let v438 : BitVec 32 := Scalar.muli v9 c16_i32_240
  let v439 : BitVec 32 := Scalar.addi c0_i32_241 v438
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v440 : BitVec 32 := Scalar.muli v5 c4_i32_242
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v442 : BitVec 32 := Scalar.muli v8 c1_i32_243
  let v443 : BitVec 32 := Scalar.addi v441 v442
  v443.toNat
def k0_off3 (d0 : Dev nD) : Fin 2 → Nat :=
  let c0_248 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_247 : BitVec 32 := 512#32
  let v450 : BitVec 32 := Scalar.muli v2 c512_i32_247
  let v451 : Index := Scalar.indexCast v450
  ![0, v451.toNat]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_249 : BitVec 32 := 2048#32
  let v454 : BitVec 32 := Scalar.muli v2 c2048_i32_249
  let v455 : Index := Scalar.indexCast v454
  let c0_250 : Index := 0#32
  ![v455.toNat, 0]
def k0_off5 (d0 : Dev nD) (c0_i32_262 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c2048_i32_260 : BitVec 32 := 2048#32
  let v467 : BitVec 32 := Scalar.muli v9 c2048_i32_260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1024_i32_261 : BitVec 32 := 1024#32
  let v468 : BitVec 32 := Scalar.muli v19 c1024_i32_261
  let v469 : BitVec 32 := Scalar.addi v467 v468
  let v470 : BitVec 32 := Scalar.addi v469 c0_i32_262
  let c0_i32_269 : BitVec 32 := 0#32
  ![v470.toNat, 0]
def k0_dev19 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v471 : BitVec 32 := Scalar.muli v2 c16_i32_265
  let v472 : BitVec 32 := Scalar.addi c0_i32_266 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_267 : BitVec 32 := 4#32
  let v473 : BitVec 32 := Scalar.muli v20 c4_i32_267
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v475 : BitVec 32 := Scalar.muli v8 c1_i32_268
  let v476 : BitVec 32 := Scalar.addi v474 v475
  v476.toNat
def k0_dev20 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_287 : BitVec 32 := 4#32
  let v499 : BitVec 32 := Scalar.muli v20 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_dev21 (d0 : Dev nD) : Nat :=
  let c0_i32_306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_305 : BitVec 32 := 16#32
  let v523 : BitVec 32 := Scalar.muli v2 c16_i32_305
  let v524 : BitVec 32 := Scalar.addi c0_i32_306 v523
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_307 : BitVec 32 := 4#32
  let v525 : BitVec 32 := Scalar.muli v20 c4_i32_307
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v527 : BitVec 32 := Scalar.muli v8 c1_i32_308
  let v528 : BitVec 32 := Scalar.addi v526 v527
  v528.toNat
def k0_dev22 (d0 : Dev nD) : Nat :=
  let c0_i32_326 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_325 : BitVec 32 := 16#32
  let v549 : BitVec 32 := Scalar.muli v2 c16_i32_325
  let v550 : BitVec 32 := Scalar.addi c0_i32_326 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_327 : BitVec 32 := 4#32
  let v551 : BitVec 32 := Scalar.muli v20 c4_i32_327
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v553 : BitVec 32 := Scalar.muli v8 c1_i32_328
  let v554 : BitVec 32 := Scalar.addi v552 v553
  v554.toNat
def k0_dev23 (d0 : Dev nD) : Nat :=
  let c0_i32_346 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_345 : BitVec 32 := 16#32
  let v575 : BitVec 32 := Scalar.muli v2 c16_i32_345
  let v576 : BitVec 32 := Scalar.addi c0_i32_346 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_347 : BitVec 32 := 4#32
  let v577 : BitVec 32 := Scalar.muli v20 c4_i32_347
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v579 : BitVec 32 := Scalar.muli v8 c1_i32_348
  let v580 : BitVec 32 := Scalar.addi v578 v579
  v580.toNat
def k0_dev24 (d0 : Dev nD) : Nat :=
  let c0_i32_366 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_365 : BitVec 32 := 16#32
  let v601 : BitVec 32 := Scalar.muli v2 c16_i32_365
  let v602 : BitVec 32 := Scalar.addi c0_i32_366 v601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_367 : BitVec 32 := 4#32
  let v603 : BitVec 32 := Scalar.muli v20 c4_i32_367
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v605 : BitVec 32 := Scalar.muli v8 c1_i32_368
  let v606 : BitVec 32 := Scalar.addi v604 v605
  v606.toNat
def k0_dev25 (d0 : Dev nD) : Nat :=
  let c0_i32_386 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_385 : BitVec 32 := 16#32
  let v627 : BitVec 32 := Scalar.muli v2 c16_i32_385
  let v628 : BitVec 32 := Scalar.addi c0_i32_386 v627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_387 : BitVec 32 := 4#32
  let v629 : BitVec 32 := Scalar.muli v20 c4_i32_387
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v631 : BitVec 32 := Scalar.muli v8 c1_i32_388
  let v632 : BitVec 32 := Scalar.addi v630 v631
  v632.toNat
def k0_dev26 (d0 : Dev nD) : Nat :=
  let c0_i32_406 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_405 : BitVec 32 := 16#32
  let v653 : BitVec 32 := Scalar.muli v2 c16_i32_405
  let v654 : BitVec 32 := Scalar.addi c0_i32_406 v653
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_407 : BitVec 32 := 4#32
  let v655 : BitVec 32 := Scalar.muli v20 c4_i32_407
  let v656 : BitVec 32 := Scalar.addi v654 v655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v657 : BitVec 32 := Scalar.muli v8 c1_i32_408
  let v658 : BitVec 32 := Scalar.addi v656 v657
  v658.toNat
def k0_dev27 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v679 : BitVec 32 := Scalar.muli v2 c16_i32_425
  let v680 : BitVec 32 := Scalar.addi c0_i32_426 v679
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_427 : BitVec 32 := 4#32
  let v681 : BitVec 32 := Scalar.muli v20 c4_i32_427
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_428 : BitVec 32 := 1#32
  let v683 : BitVec 32 := Scalar.muli v8 c1_i32_428
  let v684 : BitVec 32 := Scalar.addi v682 v683
  v684.toNat
def k0_dev28 (d0 : Dev nD) : Nat :=
  let c0_i32_446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_445 : BitVec 32 := 16#32
  let v705 : BitVec 32 := Scalar.muli v2 c16_i32_445
  let v706 : BitVec 32 := Scalar.addi c0_i32_446 v705
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_447 : BitVec 32 := 4#32
  let v707 : BitVec 32 := Scalar.muli v20 c4_i32_447
  let v708 : BitVec 32 := Scalar.addi v706 v707
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v709 : BitVec 32 := Scalar.muli v8 c1_i32_448
  let v710 : BitVec 32 := Scalar.addi v708 v709
  v710.toNat
def k0_dev29 (d0 : Dev nD) : Nat :=
  let c0_i32_466 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_465 : BitVec 32 := 16#32
  let v731 : BitVec 32 := Scalar.muli v2 c16_i32_465
  let v732 : BitVec 32 := Scalar.addi c0_i32_466 v731
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_467 : BitVec 32 := 4#32
  let v733 : BitVec 32 := Scalar.muli v20 c4_i32_467
  let v734 : BitVec 32 := Scalar.addi v732 v733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v735 : BitVec 32 := Scalar.muli v8 c1_i32_468
  let v736 : BitVec 32 := Scalar.addi v734 v735
  v736.toNat
def k0_dev30 (d0 : Dev nD) : Nat :=
  let c0_i32_486 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_485 : BitVec 32 := 16#32
  let v757 : BitVec 32 := Scalar.muli v2 c16_i32_485
  let v758 : BitVec 32 := Scalar.addi c0_i32_486 v757
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_487 : BitVec 32 := 4#32
  let v759 : BitVec 32 := Scalar.muli v20 c4_i32_487
  let v760 : BitVec 32 := Scalar.addi v758 v759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v761 : BitVec 32 := Scalar.muli v8 c1_i32_488
  let v762 : BitVec 32 := Scalar.addi v760 v761
  v762.toNat
def k0_dev31 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v783 : BitVec 32 := Scalar.muli v2 c16_i32_505
  let v784 : BitVec 32 := Scalar.addi c0_i32_506 v783
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_507 : BitVec 32 := 4#32
  let v785 : BitVec 32 := Scalar.muli v20 c4_i32_507
  let v786 : BitVec 32 := Scalar.addi v784 v785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v787 : BitVec 32 := Scalar.muli v8 c1_i32_508
  let v788 : BitVec 32 := Scalar.addi v786 v787
  v788.toNat
def k0_dev32 (d0 : Dev nD) : Nat :=
  let c0_i32_526 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_525 : BitVec 32 := 16#32
  let v809 : BitVec 32 := Scalar.muli v2 c16_i32_525
  let v810 : BitVec 32 := Scalar.addi c0_i32_526 v809
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_527 : BitVec 32 := 4#32
  let v811 : BitVec 32 := Scalar.muli v20 c4_i32_527
  let v812 : BitVec 32 := Scalar.addi v810 v811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v813 : BitVec 32 := Scalar.muli v8 c1_i32_528
  let v814 : BitVec 32 := Scalar.addi v812 v813
  v814.toNat
def k0_dev33 (d0 : Dev nD) : Nat :=
  let c0_i32_546 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_545 : BitVec 32 := 16#32
  let v835 : BitVec 32 := Scalar.muli v2 c16_i32_545
  let v836 : BitVec 32 := Scalar.addi c0_i32_546 v835
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_547 : BitVec 32 := 4#32
  let v837 : BitVec 32 := Scalar.muli v20 c4_i32_547
  let v838 : BitVec 32 := Scalar.addi v836 v837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v839 : BitVec 32 := Scalar.muli v8 c1_i32_548
  let v840 : BitVec 32 := Scalar.addi v838 v839
  v840.toNat
def k0_dev34 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_565 : BitVec 32 := 16#32
  let v861 : BitVec 32 := Scalar.muli v2 c16_i32_565
  let v862 : BitVec 32 := Scalar.addi c0_i32_566 v861
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.xori v5 c1_i32_8
  let c4_i32_567 : BitVec 32 := 4#32
  let v863 : BitVec 32 := Scalar.muli v20 c4_i32_567
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v865 : BitVec 32 := Scalar.muli v8 c1_i32_568
  let v866 : BitVec 32 := Scalar.addi v864 v865
  v866.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealLoop.lean ====
/-
# The kernel's body as loops over the chunks

The printed body spells out the sixteen chunks of every phase. Here the same body is written as loops over the
list of chunks, one step per phase, and the printed body is shown to be that program, by unfolding.

A device at place (x, y, z) works with the device across x (same y and z) and the device across the low bit of y.
Its phases: tell both that it is ready; for each chunk, copy a piece of its own block of `x` into the scratch buffer
and ship it across x (after the first piece is in the scratch buffer, wait until both neighbours are ready); put the part
of its own block it keeps into its result; as each chunk arrives from across x, forward it across y; wait for the
chunks arriving from across y; wait until all it sent has left.
-/
module

public import proofs.«01_k».proof.Proof.Gen.KernelIdeal.Skeleton
public import Idealize.ShloMosaic.Lib.Pipeline.Regions

@[expose] public section

noncomputable section

namespace Cert.KernelIdealProof

open Cert.KernelIdeal Cert.KernelIdeal.Gen
open Idealize.ShloMosaic Idealize.SL.Sem

variable {F : FTy → Type} [FloatOps F]

/-- The sixteen chunks, in the order the kernel takes them. -/
abbrev all : List (Fin 16) := [0, 1, 2, 3, 4, 5, 6, 7, 8, 9, 10, 11, 12, 13, 14, 15]

/-- A phase: its step at each chunk of a list, in order. -/
def chunks {E : Type → Type} (step : Fin 16 → Prog E PUnit) : List (Fin 16) → Prog E PUnit
  | [] => pure ⟨⟩
  | j :: l => step j >>= fun _ => chunks step l

/-- The first row of chunk `j`, as the kernel's address word. -/
abbrev row (j : Fin 16) : BitVec 32 := BitVec.ofNat 32 (64 * j.val)

theorem stage_inb (j : Fin 16) : ∀ a, (![64 * j.val, 0] : Fin 2 → Nat) a + S64x512.size a ≤ S1024x512.size a := by
  revert j; decide

/-- Chunk `j` of the scratch buffer: its rows from `64 j`. -/
abbrev stageR (j : Fin 16) : Rect S1024x512 := Rect.unit (s := S1024x512) ![64 * j.val, 0] S64x512.size (stage_inb j)
/-- The piece of device `d`'s block of `x` that chunk `j` ships. -/
abbrev pieceR (d : Dev nD) (j : Fin 16) : Rect S2048x1024 := Rect.unit (s := S2048x1024) (k0_off1 d (row j)) S64x512.size (k0_off1_inb d j)
/-- Where chunk `j` shipped by `d` lands in the result of the device across x. -/
abbrev landR (d : Dev nD) (j : Fin 16) : Rect S4096x512 := Rect.unit (s := S4096x512) (k0_off2 d (row j)) S64x512.size (k0_off2_inb d j)
/-- Where chunk `j` from across x lands in `d`'s result, and, forwarded, in the result of the device across y. -/
abbrev fwdR (d : Dev nD) (j : Fin 16) : Rect S4096x512 := Rect.unit (s := S4096x512) (k0_off5 d (row j)) S64x512.size (k0_off5_inb d j)
/-- The part of `d`'s block of `x` it keeps, and where it goes in its result. -/
abbrev keepR (d : Dev nD) : Rect S2048x1024 := Rect.unit (s := S2048x1024) (k0_off3 d) S2048x512.size (k0_off3_inb d)
abbrev ownR (d : Dev nD) : Rect S4096x512 := Rect.unit (s := S4096x512) (k0_off4 d) S2048x512.size (k0_off4_inb d)

theorem sem_inb (j : Fin 16) : ∀ a, (![j.val] : Fin 1 → Nat) a + S1.size a ≤ S16.size a := by revert j; decide

/-- The semaphore of chunk `j` in a row of sixteen. -/
abbrev semAt (s : DmaSems sig S16) (j : Fin 16) : DmaSem sig :=
  ((s.slice (Rect.unit (s := S16) ![j.val] S1.size (sem_inb j))).squeeze S_ squeezes_S1_S_).sem

theorem stage_packed : ∀ j : Fin 16, (stageR j).PackedRows (EltTy.packing .bf16) := by decide +kernel
theorem stage_words : ∀ j : Fin 16, (stageR j).WholeWords (EltTy.packing .bf16) := by decide +kernel

/-- The runtime's barrier semaphore. -/
abbrev barS : Sem sig := (SemArray.scalar (sig.barrier 0 rfl) : Sems sig S_).sem

section Steps
variable (arg0 : Memref sig .tc .vmem S2048x1024 .bf16) (harg0 : arg0.IsWhole) (arg1 : Memref sig .tc .vmem S4096x512 .bf16) (harg1 : arg1.IsWhole)
  (arg2 : Memref sig .tc .vmem S1024x512 .bf16) (harg2 : arg2.IsWhole) (arg3 arg4 arg5 arg6 : DmaSems sig S16) (d : Dev nD)

abbrev stageM (j : Fin 16) : Memref sig .tc .vmem S64x512 .bf16 := arg2.slice (stageR j) (fun _ => rfl)
abbrev landM (j : Fin 16) : Memref sig .tc .vmem S64x512 .bf16 := arg1.slice (landR d j) (fun _ => rfl)
abbrev fwdM (j : Fin 16) : Memref sig .tc .vmem S64x512 .bf16 := arg1.slice (fwdR d j) (fun _ => rfl)

/-- Copy the piece of the own block that chunk `j` ships into the scratch buffer. -/
def fill (j : Fin 16) : Prog (TpuEff nD τ sig (Elt F) Λ₀ .tc) PUnit := do
  let v : Vec F S64x512 .bf16 ← Prog.lift (.load arg0 (pieceR d j).toLoadRect (View.loadsAt_vmem h_S64x512))
  let _ : Vec F S64x512 .bf16 ← Prog.lift (.load arg2 (stageR j).toLoadRect (View.loadsAt_vmem h_S64x512))
  Prog.lift (.store arg2 (stageR j) (k0_pay1 v) Finset.univ
    (View.stores_vmem h_S64x512 (harg2.storeExact_slice rfl _ (stage_packed j)) (fun _ => rfl)) (.inl rfl))

/-- Ship chunk `j` of the scratch buffer to the device across x. -/
def ship (j : Fin 16) : Prog (TpuEff nD τ sig (Elt F) Λ₀ .tc) PUnit :=
  Prog.lift (.enqueueDma (stageM arg2 j) (.remote (Dev.tc (⟨k0_dev1 d, k0_dev1_lt d⟩ : Dev nD)) (landM arg1 d j) (.dma (semAt arg3 j)))
    (.dma (semAt arg4 j)) (harg2.wordExact_slice rfl _ (stage_words j)) (harg1.wordExact_slice rfl _ (k0_off2_wordsbf16 d j)) ⟨⟨rfl, Or.inl rfl⟩, trivial⟩)

/-- One chunk of the first phase: fill, then ship. -/
def fillShip (j : Fin 16) : Prog (TpuEff nD τ sig (Elt F) Λ₀ .tc) PUnit :=
  fill arg0 arg2 harg2 d j >>= fun _ => ship arg1 harg1 arg2 harg2 arg3 arg4 d j

/-- Put the part of the own block the device keeps into its result. -/
def keep : Prog (TpuEff nD τ sig (Elt F) Λ₀ .tc) PUnit := do
  let v : Vec F S2048x512 .bf16 ← Prog.lift (.load arg0 (keepR d).toLoadRect (View.loadsAt_vmem h_S2048x512))
  let _ : Vec F S2048x512 .bf16 ← Prog.lift (.load arg1 (ownR d).toLoadRect (View.loadsAt_vmem h_S2048x512))
  Prog.lift (.store arg1 (ownR d) (k0_pay21 v) Finset.univ
    (View.stores_vmem h_S2048x512 (harg1.storeExact_slice rfl _ (k0_off4_packedbf16 d)) (fun _ => rfl)) (.inl rfl))

/-- Wait for chunk `j` from across x and forward it to the device across y. -/
def passOn (j : Fin 16) : Prog (TpuEff nD τ sig (Elt F) Λ₀ .tc) PUnit := do
  Prog.lift (.waitDma2 (semAt arg4 j) (stageM arg2 j) (landM arg1 d j) (harg2.wordExact_slice rfl _ (stage_words j)) (harg1.wordExact_slice rfl _ (k0_off2_wordsbf16 d j)))
  Prog.lift (.enqueueDma (fwdM arg1 d j) (.remote (Dev.tc (⟨k0_dev2 d, k0_dev2_lt d⟩ : Dev nD)) (fwdM arg1 d j) (.dma (semAt arg5 j)))
    (.dma (semAt arg6 j)) (harg1.wordExact_slice rfl _ (k0_off5_wordsbf16 d j)) (harg1.wordExact_slice rfl _ (k0_off5_wordsbf16 d j)) ⟨⟨rfl, Or.inl rfl⟩, trivial⟩)

/-- Wait for chunk `j` from across y. -/
def arrive (j : Fin 16) : Prog (TpuEff nD τ sig (Elt F) Λ₀ .tc) PUnit :=
  Prog.lift (.waitDma2 (semAt arg6 j) (fwdM arg1 d j) (fwdM arg1 d j) (harg1.wordExact_slice rfl _ (k0_off5_wordsbf16 d j)) (harg1.wordExact_slice rfl _ (k0_off5_wordsbf16 d j)))

/-- Wait until both of chunk `j`'s sends have left. -/
def leave (j : Fin 16) : Prog (TpuEff nD τ sig (Elt F) Λ₀ .tc) PUnit := do
  Prog.lift (.waitDma2 (semAt arg3 j) (landM arg1 d j) (stageM arg2 j) (harg1.wordExact_slice rfl _ (k0_off2_wordsbf16 d j)) (harg2.wordExact_slice rfl _ (stage_words j)))
  Prog.lift (.waitDma2 (semAt arg5 j) (fwdM arg1 d j) (fwdM arg1 d j) (harg1.wordExact_slice rfl _ (k0_off5_wordsbf16 d j)) (harg1.wordExact_slice rfl _ (k0_off5_wordsbf16 d j)))

/-- What follows the handshake's two signals. -/
def phases : Prog (TpuEff nD τ sig (Elt F) Λ₀ .tc) PUnit := do
  fill arg0 arg2 harg2 d 0
  semWaitWord barS 2#32
  ship arg1 harg1 arg2 harg2 arg3 arg4 d 0
  chunks (fillShip arg0 arg1 harg1 arg2 harg2 arg3 arg4 d) all.tail
  keep arg0 arg1 harg1 d
  chunks (passOn arg1 harg1 arg2 harg2 arg4 arg5 arg6 d) all
  chunks (arrive arg1 harg1 arg6 d) all
  chunks (leave arg1 harg1 arg2 harg2 arg3 arg5 d) all

end Steps

/-- The whole body, as loops. -/
def looped (arg0 : Memref sig .tc .vmem S2048x1024 .bf16) (arg1 : Memref sig .tc .vmem S4096x512 .bf16) (harg1 : arg1.IsWhole)
    (arg2 : Memref sig .tc .vmem S1024x512 .bf16) (harg2 : arg2.IsWhole) (arg3 arg4 arg5 arg6 : DmaSems sig S16) :
    Prog (TpuEff nD τ sig (Elt F) Λ₀ .tc) PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  phases arg0 arg1 harg1 arg2 harg2 arg3 arg4 arg5 arg6 d

set_option maxRecDepth 65536 in
set_option maxHeartbeats 4000000 in
/-- The printed body is the looped one. -/
theorem body_looped (arg0 : Memref sig .tc .vmem S2048x1024 .bf16) (harg0 : arg0.IsWhole) (arg1 : Memref sig .tc .vmem S4096x512 .bf16) (harg1 : arg1.IsWhole)
    (arg2 : Memref sig .tc .vmem S1024x512 .bf16) (harg2 : arg2.IsWhole) (arg3 arg4 arg5 arg6 : DmaSems sig S16) :
    cc0_body (F := F) arg0 harg0 arg1 harg1 arg2 harg2 arg3 arg4 arg5 arg6 = looped arg0 arg1 harg1 arg2 harg2 arg3 arg4 arg5 arg6 := by
  chain_rfl

end Cert.KernelIdealProof

end
-- ==== Proof.KernelIdealPlace.lean ====
/-
# Places: who talks to whom, which rows go where, what they hold

The closed forms of the kernel's device numbers and addresses on the mesh; the sets of rows of the scratch buffer and of
the result that one chunk occupies; and the contents, as one function per buffer, that the run leaves in them.
-/
module

public import proofs.«01_k».proof.Proof.KernelIdealLoop
public import proofs.«01_k».proof.Proof.Gen.KernelIdeal.Launch
public import Idealize.ShloMosaic.Lib.ViewIndex
public import Idealize.ShloMosaic.Lib.Pipeline.Value
public import Idealize.ShloMosaic.Lib.Tactic

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## The neighbours -/

/-- A device's place along x, and the low bit of its place along y. -/
abbrev cx (c : Dev nD) : ℕ := c.val / 16
abbrev cs (c : Dev nD) : ℕ := c.val / 4 % 2

set_option backward.proofsInPublic true in
/-- The device across x. -/
def xp (c : Dev nD) : Dev nD := ⟨(c.val + 16) % 32, Nat.mod_lt _ (by decide)⟩
set_option backward.proofsInPublic true in
/-- The device across the low bit of y. -/
def yp (c : Dev nD) : Dev nD := ⟨(c.val + 4 - 8 * cs c) % 32, Nat.mod_lt _ (by decide)⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne_yp (c : Dev nD) : xp c ≠ yp c := by revert c; decide
theorem cx_lt (c : Dev nD) : cx c < 2 := by revert c; decide
theorem cs_lt (c : Dev nD) : cs c < 2 := by revert c; decide
theorem cx_xp (c : Dev nD) : cx (xp c) = 1 - cx c := by revert c; decide
theorem cs_xp (c : Dev nD) : cs (xp c) = cs c := by revert c; decide
theorem cx_yp (c : Dev nD) : cx (yp c) = cx c := by revert c; decide
theorem cs_yp (c : Dev nD) : cs (yp c) = 1 - cs c := by revert c; decide

/-- The two pairings of the devices, each its own inverse. -/
def acrossX : Dev nD ≃ Dev nD := ⟨xp, xp, xp_xp, xp_xp⟩
def acrossY : Dev nD ≃ Dev nD := ⟨yp, yp, yp_yp, yp_yp⟩

/-- The kernel's computed device numbers are the two neighbours. -/
theorem dev1_eq (c : Dev nD) : (⟨k0_dev1 c, k0_dev1_lt c⟩ : Dev nD) = xp c := by revert c; decide +kernel
theorem dev2_eq (c : Dev nD) : (⟨k0_dev2 c, k0_dev2_lt c⟩ : Dev nD) = yp c := by revert c; decide +kernel

/-! ## The addresses -/

theorem off1_eq (c : Dev nD) (j : Fin 16) : k0_off1 c (row j) = ![1024 * cs c + 64 * j.val, 512 * (1 - cx c)] := by
  revert c j; decide +kernel
theorem off2_eq (c : Dev nD) (j : Fin 16) : k0_off2 c (row j) = ![2048 * cx c + 1024 * cs c + 64 * j.val, 0] := by
  revert c j; decide +kernel
theorem off3_eq (c : Dev nD) : k0_off3 c = ![0, 512 * cx c] := by revert c; decide +kernel
theorem off4_eq (c : Dev nD) : k0_off4 c = ![2048 * cx c, 0] := by revert c; decide +kernel
theorem off5_eq (c : Dev nD) (j : Fin 16) : k0_off5 c (row j) = ![2048 * (1 - cx c) + 1024 * cs c + 64 * j.val, 0] := by
  revert c j; decide +kernel

/-! ## The buffers -/

abbrev xM : Memref sig .tc .vmem S2048x1024 .bf16 := Memref.whole cc0_stg0_0
abbrev oM : Memref sig .tc .vmem S4096x512 .bf16 := Memref.whole cc0_stg1_0
abbrev rM : Memref sig .tc .vmem S1024x512 .bf16 := Memref.whole cc0_scratch0

/-! ## The rows of a chunk -/

theorem mem_stage {j : Fin 16} {i : S1024x512.Idx} : i ∈ (stageR j).set ↔ 64 * j.val ≤ (i 0).val ∧ (i 0).val < 64 * j.val + 64 := by
  rw [Rect.mem_set_unit]
  have h1 : (i 1).val < 512 := (i 1).isLt
  constructor
  · intro h; exact h 0
  · intro h a; fin_cases a
    · exact h
    · exact ⟨Nat.zero_le _, by show (i 1).val < 0 + 512; omega⟩

/-- Rows of the result from a base, at an address whose column is zero. -/
theorem mem_rows {off : Fin 2 → ℕ} {n : ℕ} {sz : Fin 2 → ℕ} {b : ℕ} (ho : off = ![b, 0]) (hs : sz = ![n, 512]) (inb) {i : S4096x512.Idx} :
    i ∈ (Rect.unit (s := S4096x512) off sz inb).set ↔ b ≤ (i 0).val ∧ (i 0).val < b + n := by
  rw [Rect.mem_set_unit]
  subst ho; subst hs
  have h1 : (i 1).val < 512 := (i 1).isLt
  constructor
  · intro h; exact h 0
  · intro h a; fin_cases a
    · exact h
    · exact ⟨Nat.zero_le _, by show (i 1).val < 0 + 512; omega⟩

theorem size64 : S64x512.size = ![64, 512] := by decide
theorem size2048 : S2048x512.size = ![2048, 512] := by decide

theorem mem_land {c : Dev nD} {j : Fin 16} {i : S4096x512.Idx} :
    i ∈ (landR c j).set ↔ 2048 * cx c + 1024 * cs c + 64 * j.val ≤ (i 0).val ∧ (i 0).val < 2048 * cx c + 1024 * cs c + 64 * j.val + 64 :=
  mem_rows (off2_eq c j) size64 _
theorem mem_fwd {c : Dev nD} {j : Fin 16} {i : S4096x512.Idx} :
    i ∈ (fwdR c j).set ↔ 2048 * (1 - cx c) + 1024 * cs c + 64 * j.val ≤ (i 0).val ∧ (i 0).val < 2048 * (1 - cx c) + 1024 * cs c + 64 * j.val + 64 :=
  mem_rows (off5_eq c j) size64 _
theorem mem_own {c : Dev nD} {i : S4096x512.Idx} : i ∈ (ownR c).set ↔ 2048 * cx c ≤ (i 0).val ∧ (i 0).val < 2048 * cx c + 2048 :=
  mem_rows (off4_eq c) size2048 _

/-- What the device across x ships lands where `c` forwards from. -/
theorem land_xp (c : Dev nD) (j : Fin 16) : (landR (xp c) j).set = (fwdR c j).set := by
  ext i; rw [mem_land, mem_fwd, cx_xp, cs_xp]

/-- Two chunks' rows of the scratch buffer are disjoint, and all sixteen make it up. -/
theorem stage_disj {j k : Fin 16} (h : j ≠ k) : Disjoint (stageR j).set (stageR k).set := by
  rw [Finset.disjoint_left]
  intro i hj hk
  rw [mem_stage] at hj hk
  exact h (Fin.ext (by omega))
theorem stage_cover : (Finset.univ : Finset (Fin 16)).biUnion (fun j => (stageR j).set) = Finset.univ := by
  ext i
  have h0 : (i 0).val < 1024 := (i 0).isLt
  simp only [Finset.mem_biUnion, Finset.mem_univ, true_and, iff_true]
  exact ⟨⟨(i 0).val / 64, by omega⟩, mem_stage.mpr ⟨by show 64 * ((i 0).val / 64) ≤ _; omega, by show _ < 64 * ((i 0).val / 64) + 64; omega⟩⟩

/-- The rows of the result that arrive from across x; those that arrive from across y; two chunks' are disjoint. -/
theorem fwd_disj {c : Dev nD} {j k : Fin 16} (h : j ≠ k) : Disjoint (fwdR c j).set (fwdR c k).set := by
  rw [Finset.disjoint_left]
  intro i hj hk
  rw [mem_fwd] at hj hk
  exact h (Fin.ext (by omega))

/-- All of the rows `c` forwards. -/
def fwdAll (c : Dev nD) : Finset S4096x512.Idx := (Finset.univ : Finset (Fin 16)).biUnion fun j => (fwdR c j).set

theorem mem_fwdAll {c : Dev nD} {i : S4096x512.Idx} :
    i ∈ fwdAll c ↔ 2048 * (1 - cx c) + 1024 * cs c ≤ (i 0).val ∧ (i 0).val < 2048 * (1 - cx c) + 1024 * cs c + 1024 := by
  unfold fwdAll
  simp only [Finset.mem_biUnion, Finset.mem_univ, true_and, mem_fwd]
  constructor
  · rintro ⟨j, h1, h2⟩; have := j.isLt; omega
  · rintro ⟨h1, h2⟩
    exact ⟨⟨((i 0).val - (2048 * (1 - cx c) + 1024 * cs c)) / 64, by omega⟩,
      by show _ + 64 * (((i 0).val - (2048 * (1 - cx c) + 1024 * cs c)) / 64) ≤ _; omega,
      by show _ < _ + 64 * (((i 0).val - (2048 * (1 - cx c) + 1024 * cs c)) / 64) + 64; omega⟩

/-- The result of `c`: the half it keeps, the rows from across x, the rows from across y. -/
theorem own_fwd_disj (c : Dev nD) : Disjoint (ownR c).set (fwdAll c ∪ fwdAll (yp c)) := by
  rw [Finset.disjoint_left]
  intro i h h'
  rw [mem_own] at h
  rw [Finset.mem_union, mem_fwdAll, mem_fwdAll, cx_yp, cs_yp] at h'
  have := cx_lt c; have := cs_lt c
  omega
theorem fwd_yp_disj (c : Dev nD) : Disjoint (fwdAll c) (fwdAll (yp c)) := by
  rw [Finset.disjoint_left]
  intro i h h'
  rw [mem_fwdAll] at h h'
  rw [cx_yp, cs_yp] at h'
  have := cs_lt c
  omega
theorem out_cover (c : Dev nD) : (ownR c).set ∪ (fwdAll c ∪ fwdAll (yp c)) = Finset.univ := by
  ext i
  have h0 : (i 0).val < 4096 := (i 0).isLt
  rw [Finset.mem_union, Finset.mem_union, mem_own, mem_fwdAll, mem_fwdAll, cx_yp, cs_yp]
  have := cx_lt c; have := cs_lt c
  simp only [Finset.mem_univ, iff_true]
  omega

/-! ## The contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The index of a buffer of two axes with the two coordinates. -/
def at2 (n k : ℕ) (hn : 0 < n) (hk : 0 < k) (r q : ℕ) : (⟨2, ![n, k]⟩ : Shape).Idx
  | ⟨0, _⟩ => ⟨r % n, Nat.mod_lt _ hn⟩
  | ⟨1, _⟩ => ⟨q % k, Nat.mod_lt _ hk⟩

/-- The entry of device `c`'s block of `x` at a row and a column. -/
def xAt (c : Dev nD) (r q : ℕ) : Elt F .bf16 := xstg m ρ c (at2 2048 1024 (by decide) (by decide) r q)

theorem xstg_apply (c : Dev nD) (i : S2048x1024.Idx) : xstg m ρ c i = xAt m ρ c (i 0).val (i 1).val := by
  unfold xAt
  refine congrArg (xstg m ρ c) (funext fun a => ?_)
  have h0 : (i 0).val < 2048 := (i 0).isLt
  have h1 : (i 1).val < 1024 := (i 1).isLt
  fin_cases a
  · exact Fin.ext (Nat.mod_eq_of_lt h0).symm
  · exact Fin.ext (Nat.mod_eq_of_lt h1).symm

/-- What the run leaves in the scratch buffer: the pieces shipped. -/
def stageF (c : Dev nD) : (cc0_scratch0 : Ref sig .tc).ty.Contents (Elt F) :=
  fun i : S1024x512.Idx => xAt m ρ c (1024 * cs c + (i 0).val) (512 * (1 - cx c) + (i 1).val)

/-- The device whose block of `x` row `r` of `c`'s result comes from. -/
def src (c : Dev nD) (r : ℕ) : Dev nD := if r / 2048 = cx c then c else if r / 1024 % 2 = cs c then xp c else xp (yp c)

/-- What the run leaves in the result. -/
def outF (c : Dev nD) : (cc0_stg1_0 : Ref sig .tc).ty.Contents (Elt F) :=
  fun i : S4096x512.Idx => xAt m ρ (src c (i 0).val) ((i 0).val % 2048) (512 * cx c + (i 1).val)

/-- Contents after a write of a whole rectangle of a buffer: on the rectangle, the function the payload reads. -/
theorem write_agrees {Val : EltTy → Type} (b : Ref sig .tc) (r : Rect b.ty.shape) (f G : b.ty.Contents Val) (w : r.shape.Idx → Val b.ty.elt)
    (h : ∀ x, w x = G (r.emb x)) : ∀ i ∈ r.set, ((View.whole b).slice r).write Val f w Finset.univ i = G i := by
  intro i hi
  rw [← View.set_slice_whole b r] at hi
  obtain ⟨x, hx⟩ := View.exists_of_mem_set_slice (v := View.whole b) hi
  subst hx
  have := ((View.whole b).slice r).write_emb_of_mem (Val := Val) f w (M := Finset.univ) (Finset.mem_univ x)
  exact this.trans (h x)

/-- A coordinate of a rectangle's index in its buffer. -/
theorem emb_val {s : Shape} {off : Fin s.rank → ℕ} {sz : Fin s.rank → ℕ} (inb : ∀ a, off a + sz a ≤ s.size a) (x : (Rect.unit off sz inb).shape.Idx)
    (a : Fin s.rank) : ((Rect.unit off sz inb).emb x a).val = off a + (x a).val := by
  rw [Rect.emb_apply]; show off a + 1 * _ = _; rw [Nat.one_mul]

theorem pay1_eq (v : Vec F S64x512 .bf16) : k0_pay1 v = v := by
  unfold k0_pay1; exact (shapeCast_self _ _).trans (shapeCast_self _ _)
theorem pay21_eq (v : Vec F S2048x512 .bf16) : k0_pay21 v = v := by
  unfold k0_pay21; exact shapeCast_self _ _

section Agree
variable (c : Dev nD) (j : Fin 16)

/-- The coordinates of a chunk's index in each buffer. -/
theorem stage_0 (x : (stageR j).shape.Idx) : ((stageR j).emb x 0).val = 64 * j.val + (x 0).val := emb_val _ x 0
theorem stage_1 (x : (stageR j).shape.Idx) : ((stageR j).emb x 1).val = (x 1).val := (emb_val _ x 1).trans (Nat.zero_add _)
theorem piece_0 (x : (pieceR c j).shape.Idx) : ((pieceR c j).emb x 0).val = 1024 * cs c + 64 * j.val + (x 0).val :=
  (emb_val _ x 0).trans (congrArg (· + (x 0).val) (congrFun (off1_eq c j) 0))
theorem piece_1 (x : (pieceR c j).shape.Idx) : ((pieceR c j).emb x 1).val = 512 * (1 - cx c) + (x 1).val :=
  (emb_val _ x 1).trans (congrArg (· + (x 1).val) (congrFun (off1_eq c j) 1))
theorem land_0 (x : (landR c j).shape.Idx) : ((landR c j).emb x 0).val = 2048 * cx c + 1024 * cs c + 64 * j.val + (x 0).val :=
  (emb_val _ x 0).trans (congrArg (· + (x 0).val) (congrFun (off2_eq c j) 0))
theorem land_1 (x : (landR c j).shape.Idx) : ((landR c j).emb x 1).val = (x 1).val :=
  (emb_val _ x 1).trans ((congrArg (· + (x 1).val) (congrFun (off2_eq c j) 1)).trans (Nat.zero_add _))
theorem keep_0 (x : (keepR c).shape.Idx) : ((keepR c).emb x 0).val = (x 0).val :=
  (emb_val _ x 0).trans ((congrArg (· + (x 0).val) (congrFun (off3_eq c) 0)).trans (Nat.zero_add _))
theorem keep_1 (x : (keepR c).shape.Idx) : ((keepR c).emb x 1).val = 512 * cx c + (x 1).val :=
  (emb_val _ x 1).trans (congrArg (· + (x 1).val) (congrFun (off3_eq c) 1))
theorem own_0 (x : (ownR c).shape.Idx) : ((ownR c).emb x 0).val = 2048 * cx c + (x 0).val :=
  (emb_val _ x 0).trans (congrArg (· + (x 0).val) (congrFun (off4_eq c) 0))
theorem own_1 (x : (ownR c).shape.Idx) : ((ownR c).emb x 1).val = (x 1).val :=
  (emb_val _ x 1).trans ((congrArg (· + (x 1).val) (congrFun (off4_eq c) 1)).trans (Nat.zero_add _))

/-- Filling chunk `j` of the scratch buffer leaves there what the run leaves there. -/
theorem fill_agrees (f : (cc0_scratch0 : Ref sig .tc).ty.Contents (Elt F)) :
    ∀ i ∈ (stageR j).set, ((rM.access (stageR j)).write (Elt F) f (k0_pay1 (xM.view.readAt (Elt F) (pieceR c j).toLoadRect (xstg m ρ c))) Finset.univ) i
      = stageF m ρ c i := by
  refine write_agrees (cc0_scratch0 : Ref sig .tc) (stageR j) f (stageF m ρ c) _ fun x => ?_
  rw [pay1_eq]
  show xstg m ρ c ((pieceR c j).emb x) = xAt m ρ c (1024 * cs c + ((stageR j).emb x 0).val) (512 * (1 - cx c) + ((stageR j).emb x 1).val)
  rw [xstg_apply, piece_0, piece_1, stage_0, stage_1, Nat.add_assoc]

/-- Putting the half it keeps into its result leaves there what the run leaves there. -/
theorem keep_agrees (f : (cc0_stg1_0 : Ref sig .tc).ty.Contents (Elt F)) :
    ∀ i ∈ (ownR c).set, ((oM.access (ownR c)).write (Elt F) f (k0_pay21 (xM.view.readAt (Elt F) (keepR c).toLoadRect (xstg m ρ c))) Finset.univ) i
      = outF m ρ c i := by
  refine write_agrees (cc0_stg1_0 : Ref sig .tc) (ownR c) f (outF m ρ c) _ fun x => ?_
  rw [pay21_eq]
  show xstg m ρ c ((keepR c).emb x) = xAt m ρ (src c ((ownR c).emb x 0).val) (((ownR c).emb x 0).val % 2048) (512 * cx c + ((ownR c).emb x 1).val)
  rw [xstg_apply, keep_0, keep_1, own_0, own_1]
  have hx : (x 0).val < 2048 := (x 0).isLt
  have hs : src c (2048 * cx c + (x 0).val) = c := if_pos (by omega)
  rw [hs, show (2048 * cx c + (x 0).val) % 2048 = (x 0).val by omega]

/-- Chunk `j` shipped from the scratch buffer leaves in the result across x what the run leaves there. -/
theorem ship_agrees (f : (cc0_stg1_0 : Ref sig .tc).ty.Contents (Elt F)) :
    ∀ i ∈ (landR c j).set, ((landM oM c j).view.write (Elt F) f ((stageM rM j).view.read (Elt F) (stageF m ρ c)) Finset.univ) i = outF m ρ (xp c) i := by
  refine write_agrees (cc0_stg1_0 : Ref sig .tc) (landR c j) f (outF m ρ (xp c)) _ fun x => ?_
  show xAt m ρ c (1024 * cs c + ((stageR j).emb x 0).val) (512 * (1 - cx c) + ((stageR j).emb x 1).val)
    = xAt m ρ (src (xp c) ((landR c j).emb x 0).val) (((landR c j).emb x 0).val % 2048) (512 * cx (xp c) + ((landR c j).emb x 1).val)
  rw [stage_0, stage_1, land_0, land_1, cx_xp]
  have hx : (x 0).val < 64 := (x 0).isLt
  have hj : j.val < 16 := j.isLt
  have h1 := cx_lt c
  have h2 := cs_lt c
  have hs : src (xp c) (2048 * cx c + 1024 * cs c + 64 * j.val + (x 0).val) = c := by
    unfold src
    rw [if_neg (by rw [cx_xp]; omega), if_pos (by rw [cs_xp]; omega), xp_xp]
  rw [hs]
  have e : (2048 * cx c + 1024 * cs c + 64 * j.val + (x 0).val) % 2048 = 1024 * cs c + (64 * j.val + (x 0).val) := by omega
  rw [e]

/-- On the rows `c` forwards, its result and that of the device across y are the same. -/
theorem fwd_same : ∀ i ∈ (fwdR c j).set, outF m ρ c i = outF m ρ (yp c) i := by
  intro i hi
  rw [mem_fwd] at hi
  have hj : j.val < 16 := j.isLt
  have h1 := cx_lt c
  have h2 := cs_lt c
  have hs : src c (i 0).val = xp c := by
    unfold src
    rw [if_neg (by omega), if_pos (by omega)]
  have hs' : src (yp c) (i 0).val = xp c := by
    unfold src
    rw [if_neg (by rw [cx_yp]; omega), if_neg (by rw [cs_yp]; omega), yp_yp]
  show xAt m ρ (src c (i 0).val) ((i 0).val % 2048) (512 * cx c + (i 1).val) = xAt m ρ (src (yp c) (i 0).val) ((i 0).val % 2048) (512 * cx (yp c) + (i 1).val)
  rw [hs, hs', cx_yp]

/-- Chunk `j` forwarded leaves in the result across y what the run leaves there. -/
theorem fwd_agrees (f : (cc0_stg1_0 : Ref sig .tc).ty.Contents (Elt F)) :
    ∀ i ∈ (fwdR c j).set, ((fwdM oM c j).view.write (Elt F) f ((fwdM oM c j).view.read (Elt F) (outF m ρ c)) Finset.univ) i = outF m ρ (yp c) i := by
  intro i hi
  rw [← fwd_same m ρ c j i hi]
  exact write_agrees (cc0_stg1_0 : Ref sig .tc) (fwdR c j) f (outF m ρ c) _ (fun x => rfl) i hi

end Agree

end Cert.KernelIdealProof

end
-- ==== Proof.KernelIdealSchedule.lean ====
/-
# The protocol, as a schedule of payments

Every semaphore the kernel uses is a cell with one round of payments. A device's barrier cell is paid one unit by the
device across x and one by the device across y; each payment hands over the rows of the payer's result that the receiver
will write. Each of the sixty-four transfer cells is paid once, by the transfer that completes on it, and hands over the
rows the transfer filled, or read, with their contents.

A device owes at launch what others wait for: the two units, and the arrivals it causes. Barrier cells are below the
arrivals from across x, and those below the arrivals from across y, so no device waits for a payment that a cycle of
waits could hold back.
-/
module

public import proofs.«01_k».proof.Proof.KernelIdealPlace
public import proofs.«01_k».proof.Proof.Gen.KernelIdeal.Frame
public import Idealize.ShloMosaic.Lib.Pipeline.Launch
public import Idealize.ShloMosaic.Lib.Pipeline.Kit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, and the kernel's own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- A transfer cell: which of the four rows of semaphores, which chunk. Row 0 is departures across x, row 1 arrivals
    from across x, row 2 departures across y, row 3 arrivals from across y. -/
abbrev Xfer : Type := Fin 4 × Fin 16
/-- A cell: the barrier, or a transfer cell. -/
abbrev Key : Type := Option Xfer

abbrev semRow : Fin 4 → DmaSems sig S16
  | 0 => cc0_scratch1 | 1 => cc0_scratch2 | 2 => cc0_scratch3 | 3 => cc0_scratch4
abbrev dsem (k : Xfer) : DmaSem sig := semAt (semRow k.1) k.2
abbrev osem (k : Xfer) : SemLoc sig := .dma (dsem k)
abbrev csem : Key → SemLoc sig
  | none => .reg barS
  | some k => osem k
abbrev cell (c : Dev nD) (k : Key) : GSem nD τ sig := ((c : Thread nD τ), csem k)

theorem dsem_val : ∀ k : Xfer, (dsem k).val = 2 + 16 * k.1.val + k.2.val := by decide +kernel

/-- Which cell a semaphore is, if it is one. -/
def keyOf : SemLoc sig → Option Key
  | .reg s => if s = barS then some none else none
  | .dma q => if h : 2 ≤ q.val ∧ q.val < 66 then some (some (⟨(q.val - 2) / 16, by omega⟩, ⟨(q.val - 2) % 16, by omega⟩)) else none

theorem keyOf_csem (k : Key) : keyOf (csem k) = some k := by
  rcases k with _ | ⟨a, b⟩
  · rfl
  · have hv := dsem_val (a, b)
    have ha := a.isLt
    have hb := b.isLt
    dsimp only at hv
    show (if h : 2 ≤ (dsem (a, b)).val ∧ (dsem (a, b)).val < 66 then _ else _) = _
    rw [dif_pos (by omega)]
    congr 3
    · exact Fin.ext (by show ((dsem (a, b)).val - 2) / 16 = a.val; omega)
    · exact Fin.ext (by show ((dsem (a, b)).val - 2) % 16 = b.val; omega)

theorem csem_inj : Function.Injective csem := fun a b h => by
  have := congrArg keyOf h
  rw [keyOf_csem, keyOf_csem] at this
  exact Option.some.inj this

theorem cell_inj {c c' : Dev nD} {k k' : Key} (h : cell c k = cell c' k') : c = c' ∧ k = k' :=
  ⟨congrArg (fun g : GSem nD τ sig => g.1.1) h, csem_inj (congrArg Prod.snd h)⟩

/-- The units one chunk's transfer pays. -/
abbrev N : ℕ := (stageM rM 0).view.dmaCredit
theorem N_pos : 0 < N := View.dmaCredit_pos _ (by decide)

/-! ## The assertions handed over -/

/-- The rows `S` of the result of device `c`, holding `f`. -/
def outPts (c : Dev nD) (S : Finset S4096x512.Idx) (f : (cc0_stg1_0 : Ref sig .tc).ty.Contents (Elt F)) : sProp 𝕄 :=
  (oM : Memref sig .tc .vmem S4096x512 .bf16).view.loc (c : Thread nD τ) ↦[S]{fullShare} f
/-- The rows `S` of the scratch buffer of device `c`, holding `f`. -/
def stPts (c : Dev nD) (S : Finset S1024x512.Idx) (f : (cc0_scratch0 : Ref sig .tc).ty.Contents (Elt F)) : sProp 𝕄 :=
  (rM : Memref sig .tc .vmem S1024x512 .bf16).view.loc (c : Thread nD τ) ↦[S]{fullShare} f

omit [FloatOps F] in
instance outPts_storable (c : Dev nD) (S) (f) : BI.Storable (upEmb : UEmb _ 𝕄) (outPts (F := F) c S f) := by unfold outPts; infer_instance
omit [FloatOps F] in
instance stPts_storable (c : Dev nD) (S) (f) : BI.Storable (upEmb : UEmb _ 𝕄) (stPts (F := F) c S f) := by unfold stPts; infer_instance

/-- Rows handed over with whatever they hold. -/
def outAny (c : Dev nD) (S : Finset S4096x512.Idx) : sProp 𝕄 := iprop(∃ f, outPts (F := F) c S f)

omit [FloatOps F] in
instance outAny_storable (c : Dev nD) (S) : BI.Storable (upEmb : UEmb _ 𝕄) (outAny (F := F) c S) := by unfold outAny; infer_instance

/-- What the payments on `c`'s barrier cell hand it: from across x the rows its shipped chunks land in, from across y the
    rows its forwarded chunks land in. -/
def barPay (c : Dev nD) (d : Bool) : sProp 𝕄 :=
  bigSep Finset.univ fun j : Fin 16 => if d then outAny (yp c) (fwdR c j).set else outAny (xp c) (landR c j).set

/-- What the payment on a transfer cell of `c` hands it. -/
def xferPay (c : Dev nD) (k : Xfer) : sProp 𝕄 :=
  match k.1 with
  | 0 => stPts c (stageR k.2).set (stageF m ρ c)
  | 1 => outPts c (fwdR c k.2).set (outF m ρ c)
  | 2 => outPts c (fwdR c k.2).set (outF m ρ c)
  | 3 => outPts c (fwdR (yp c) k.2).set (outF m ρ c)

instance barPay_storable (c : Dev nD) (d : Bool) : BI.Storable (upEmb : UEmb _ 𝕄) (barPay (F := F) c d) := by
  unfold barPay; cases d <;> (simp only [Bool.false_eq_true, if_false, if_true]; infer_instance)
instance xferPay_storable (c : Dev nD) (k : Xfer) : BI.Storable (upEmb : UEmb _ 𝕄) (xferPay (F := F) m ρ c k) := by
  obtain ⟨a, b⟩ := k
  unfold xferPay
  fin_cases a <;> (dsimp only; infer_instance)

/-! ## The schedule -/

def sched : Rounds.Schedule (GSem nD τ sig) Bool 𝕄 where
  duties g r := if r = 0 ∧ g.1.2 = .tc then (match keyOf g.2 with | some none => Finset.univ | some (some _) => {false} | none => ∅) else ∅
  unitless _ := False
  amount g _ _ := match keyOf g.2 with | some none => 1 | _ => N
  payload g _ d := match keyOf g.2 with | some none => barPay g.1.1 d | some (some k) => xferPay m ρ g.1.1 k | none => iprop(emp)
  amount_pos g _ _ _ := by
    rcases h : keyOf g.2 with _ | _ | _
    · exact N_pos
    · exact Nat.one_pos
    · exact N_pos

instance sched_payload_storable (g : GSem nD τ sig) (r : ℕ) (d : Bool) : BI.Storable (upEmb : UEmb _ 𝕄) ((sched (F := F) m ρ).payload g r d) := by
  show BI.Storable upEmb (match keyOf g.2 with | some none => barPay g.1.1 d | some (some k) => xferPay m ρ g.1.1 k | none => iprop(emp))
  rcases h : keyOf g.2 with _ | _ | k <;> (dsimp only; infer_instance)

section Sched
variable (c : Dev nD) (k : Xfer)

omit [FloatOps F] in
theorem duties_bar : (sched (F := F) m ρ).duties (cell c none) 0 = Finset.univ := by
  dsimp only [sched]; rw [if_pos ⟨rfl, rfl⟩, keyOf_csem]
omit [FloatOps F] in
theorem duties_xfer : (sched (F := F) m ρ).duties (cell c (some k)) 0 = {false} := by
  dsimp only [sched]; rw [if_pos ⟨rfl, rfl⟩, keyOf_csem]
omit [FloatOps F] in
theorem duties_later (g : GSem nD τ sig) : ∀ r, 1 ≤ r → (sched (F := F) m ρ).duties g r = ∅ :=
  fun r hr => by dsimp only [sched]; rw [if_neg fun h => by omega]

omit [FloatOps F] in
theorem amount_bar (d : Bool) : (sched (F := F) m ρ).amount (cell c none) 0 d = 1 := by dsimp only [sched]; rw [keyOf_csem]
omit [FloatOps F] in
theorem amount_xfer (d : Bool) : (sched (F := F) m ρ).amount (cell c (some k)) 0 d = N := by dsimp only [sched]; rw [keyOf_csem]

omit [FloatOps F] in
theorem expect_bar : (sched (F := F) m ρ).expect (cell c none) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_xfer : (sched (F := F) m ρ).expect (cell c (some k)) 0 = N := by
  unfold Schedule.expect Schedule.amountOf; rw [duties_xfer, Finset.sum_singleton, amount_xfer]

omit [FloatOps F] in
theorem payload_bar (d : Bool) : (sched (F := F) m ρ).payload (cell c none) 0 d = barPay c d := by dsimp only [sched]; rw [keyOf_csem]
omit [FloatOps F] in
theorem payload_xfer (d : Bool) : (sched (F := F) m ρ).payload (cell c (some k)) 0 d = xferPay m ρ c k := by dsimp only [sched]; rw [keyOf_csem]

omit [FloatOps F] in
/-- Both payments on the barrier cell, together. -/
theorem rest_bar : bigSep ((sched (F := F) m ρ).duties (cell c none) 0 \ ∅) (fun d => (sched (F := F) m ρ).payload (cell c none) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
theorem rest_xfer : bigSep ((sched (F := F) m ρ).duties (cell c (some k)) 0 \ ∅) (fun d => (sched (F := F) m ρ).payload (cell c (some k)) 0 d)
    = xferPay m ρ c k := by
  rw [Finset.sdiff_empty, duties_xfer, bigSep_singleton, payload_xfer]

end Sched

/-! ## What is owed, and the levels -/

/-- The arrivals of the chunks of a list on a row of cells of device `n`. -/
def owedRow (n : Dev nD) (r : Fin 4) : List (Fin 16) → CellTallies nD τ sig Unit
  | [] => 0
  | j :: l => owedRow n r l + tallyAt (cell n (some (r, j))) () N

/-- What device `c` owes while it ships: all its arrivals across y, and those of the chunks left to ship. -/
def owedShip (c : Dev nD) (l : List (Fin 16)) : CellTallies nD τ sig Unit := owedRow (yp c) 3 all + owedRow (xp c) 1 l

/-- What it owes after its first signal, and at launch. -/
def O₁ (c : Dev nD) : CellTallies nD τ sig Unit := owedShip c all + tallyAt (cell (yp c) none) () 1
def O₀ (c : Dev nD) : CellTallies nD τ sig Unit := O₁ c + tallyAt (cell (xp c) none) () 1

/-- The level of a cell: barrier 1, arrivals from across x 2, from across y 3, anything else 0. -/
def rank : Option Key → ℕ
  | some none => 1
  | some (some (r, _)) => if r = 1 then 2 else if r = 3 then 3 else 0
  | none => 0
def L (g : GSem nD τ sig) : Finset Unit := if g.1.2 = .tc then {()} else ∅
def lv (g : GSem nD τ sig) (_ : Unit) : ℕ := rank (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) : lv (cell c k) () = rank (some k) := by unfold lv; rw [keyOf_csem]

theorem rank_bar : rank (some none) = 1 := rfl
theorem rank_x (j : Fin 16) : rank (some (some (1, j))) = 2 := rfl
theorem rank_y (j : Fin 16) : rank (some (some (3, j))) = 3 := rfl

/-- A sum of debts at a cell: the last one's cell, or owed before it. -/
theorem add_tally_pos {O : CellTallies nD τ sig Unit} {g' g : GSem nD τ sig} {n : ℕ} {u : Unit} (h : 0 < (O + tallyAt g' () n) g u) :
    g = g' ∨ 0 < O g u := by
  rw [Pi.add_apply, Finsupp.add_apply, tallyAt_apply] at h
  by_cases hj : g = g' ∧ u = ()
  · exact .inl hj.1
  · rw [if_neg hj] at h; exact .inr h

/-- Where a row of arrivals is owed. -/
theorem owedRow_pos {n : Dev nD} {r : Fin 4} {g : GSem nD τ sig} {u : Unit} : ∀ {l : List (Fin 16)}, 0 < owedRow n r l g u → ∃ j, g = cell n (some (r, j)) := by
  intro l
  induction l with
  | nil => intro h; exact absurd h (Nat.lt_irrefl 0)
  | cons j l ih => intro h; exact (add_tally_pos h).elim (fun e => ⟨j, e⟩) ih

/-- Where device `c` owes while it ships: arrivals. -/
theorem owedShip_pos {c : Dev nD} {l : List (Fin 16)} {g : GSem nD τ sig} {u : Unit} (h : 0 < owedShip c l g u) :
    ∃ (n : Dev nD) (j : Fin 16), g = cell n (some (1, j)) ∨ g = cell n (some (3, j)) := by
  unfold owedShip at h
  rw [Pi.add_apply, Finsupp.add_apply] at h
  rcases Nat.add_pos_iff_pos_or_pos.mp h with h | h
  · obtain ⟨j, e⟩ := owedRow_pos h; exact ⟨_, j, .inr e⟩
  · obtain ⟨j, e⟩ := owedRow_pos h; exact ⟨_, j, .inl e⟩

/-- Everything owed at launch is owed to a barrier cell or an arrival. -/
theorem O₀_pos {c : Dev nD} {g : GSem nD τ sig} {u : Unit} (h : 0 < O₀ c g u) : ∃ (n : Dev nD) (k : Key), g = cell n k ∧ 0 < rank (some k) := by
  rcases add_tally_pos h with e | h
  · exact ⟨_, _, e, Nat.one_pos⟩
  rcases add_tally_pos h with e | h
  · exact ⟨_, _, e, Nat.one_pos⟩
  obtain ⟨n, j, e | e⟩ := owedShip_pos h
  · exact ⟨n, _, e, by rw [rank_x]; decide⟩
  · exact ⟨n, _, e, by rw [rank_y]; decide⟩

omit [FloatOps F] in
/-- A wait is allowed when everything owed is owed to cells of higher level. -/
theorem mayWait_of (c : Dev nD) (sm : SemLoc sig) (O : CellTallies nD τ sig Unit)
    (h : ∀ g u, 0 < O g u → ∃ (n : Dev nD) (k : Key), g = cell n k ∧ rank (keyOf sm) < rank (some k)) :
    (levAts L lv : sProp 𝕄) ⊢ MayWait (c : Thread nD τ) sm () O :=
  MayOwe.of_cut (L := L) (lev := lv) (rank (keyOf sm)) (fun p hp => by rw [Finset.mem_singleton.mp hp, L_tc]; exact Finset.mem_singleton_self _)
    (fun g u hg => by obtain ⟨n, k, rfl, -⟩ := h g u hg; exact Finset.mem_singleton_self _)
    (fun p hp => by rw [Finset.mem_singleton.mp hp]; exact Nat.le_refl _)
    (fun g u hg => by obtain ⟨n, k, rfl, hk⟩ := h g u hg; rw [lv_cell]; exact hk)

omit [FloatOps F] in
theorem mayWait_stage (c : Dev nD) (sm : SemLoc sig) (hq : keyOf sm = none) (O : CellTallies nD τ sig Unit) (hO : O = O₀ c ∨ O = 0) :
    (levAts L lv : sProp 𝕄) ⊢ MayWait (c : Thread nD τ) sm () O := by
  rcases hO with rfl | rfl
  · refine mayWait_of c sm _ fun g u hg => ?_
    obtain ⟨n, k, e, hk⟩ := O₀_pos hg
    exact ⟨n, k, e, by rw [hq]; exact hk⟩
  · rw [MayWait_zero]; iintro -; iempintro

omit [FloatOps F] in
/-- The barrier wait, with the chunks of `l` still to be shipped. -/
theorem mayWait_bar (c : Dev nD) (l : List (Fin 16)) : (levAts L lv : sProp 𝕄) ⊢ MayWait (c : Thread nD τ) (.reg barS) () (owedShip c l) :=
  mayWait_of c _ _ fun g u hg => by
    rw [show keyOf (.reg barS) = some none from keyOf_csem none]
    obtain ⟨n, j, e | e⟩ := owedShip_pos hg
    · exact ⟨n, _, e, by rw [rank_bar, rank_x]; decide⟩
    · exact ⟨n, _, e, by rw [rank_bar, rank_y]; decide⟩

omit [FloatOps F] in
/-- The wait for a chunk from across x, with arrivals across y still owed. -/
theorem mayWait_pass (c : Dev nD) (j : Fin 16) (l : List (Fin 16)) :
    (levAts L lv : sProp 𝕄) ⊢ MayWait (c : Thread nD τ) (osem (1, j)) () (owedRow (yp c) 3 l) :=
  mayWait_of c _ _ fun g u hg => by
    rw [show keyOf (osem (1, j)) = some (some (1, j)) from keyOf_csem (some (1, j))]
    obtain ⟨i, e⟩ := owedRow_pos hg
    exact ⟨_, _, e, by rw [rank_x, rank_y]; decide⟩

end Cert.KernelIdealProof

end
-- ==== Proof.KernelIdealSteps.lean ====
/-
# One step of each phase

What one step of a phase needs and gives back, for any device and any chunk; and that a phase, which takes its step at
each chunk of a list, needs and gives back the steps' assertions together.
-/
module

public import proofs.«01_k».proof.Proof.KernelIdealSchedule

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The rules' judgement at device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The levels of the cells. -/
@[irreducible] def levels : sProp 𝕄 := levAts L lv

omit [FloatOps F] in
theorem levels_eq : (levels : sProp 𝕄) = levAts L lv := by unfold levels; rfl

instance levels_persistent : BI.Persistent (levels : sProp 𝕄) := by unfold levels; infer_instance

/-- Every cell follows the schedule, under the names `K`; every cell is at its first round; the levels. -/
def known (K : Dev nD × Key → ℕ) : sProp 𝕄 :=
  iprop((bigSep Finset.univ fun ck : Dev nD × Key => cellInv ER (sched m ρ) (K ck) (cell ck.1 ck.2))
    ∗ (bigSep Finset.univ fun ck : Dev nD × Key => (reached ER (cell ck.1 ck.2) 0 : sProp 𝕄)) ∗ levels)

instance known_persistent (K : Dev nD × Key → ℕ) : BI.Persistent (known m ρ K) := by unfold known; infer_instance

variable (K : Dev nD × Key → ℕ)

omit [FloatOps F] in
theorem known_inv (c : Dev nD) (k : Key) : known m ρ K ⊢ cellInv ER (sched m ρ) (K (c, k)) (cell c k) := by
  unfold known
  exact BI.Laws.sep_elim_left.trans (bigSep_elim (Finset.mem_univ (c, k)) (Φ := fun ck : Dev nD × Key => cellInv ER (sched m ρ) (K ck) (cell ck.1 ck.2)))

omit [FloatOps F] in
theorem known_reached (c : Dev nD) (k : Key) : known m ρ K ⊢ reached ER (cell c k) 0 := by
  unfold known
  exact (BI.Laws.sep_elim_right.trans BI.Laws.sep_elim_left).trans
    (bigSep_elim (Finset.mem_univ (c, k)) (Φ := fun ck : Dev nD × Key => (reached ER (cell ck.1 ck.2) 0 : sProp 𝕄)))

omit [FloatOps F] in
theorem known_levels : known m ρ K ⊢ levels := by
  unfold known
  exact BI.Laws.sep_elim_right.trans BI.Laws.sep_elim_right

/-! ## A phase from its step -/

/-- The assertions of the chunks of a list, together. -/
def each (P : Fin 16 → sProp 𝕄) : List (Fin 16) → sProp 𝕄
  | [] => iprop(emp)
  | j :: l => iprop(P j ∗ each P l)

omit [FloatOps F] in
theorem each_eq (P : Fin 16 → sProp 𝕄) : ∀ {l : List (Fin 16)}, l.Nodup → each P l = bigSep l.toFinset P
  | [], _ => bigSep_empty.symm
  | j :: l, h => by
    rw [List.toFinset_cons, bigSep_insert (fun hm => (List.nodup_cons.mp h).1 (List.mem_toFinset.mp hm)), ← each_eq P (List.nodup_cons.mp h).2]
    rfl

omit [FloatOps F] in
/-- Over all sixteen chunks. -/
theorem each_all (P : Fin 16 → sProp 𝕄) : each P all = bigSep Finset.univ P := by
  rw [each_eq P (by decide)]
  exact congrArg (fun S => bigSep S P) (by decide)

omit [FloatOps F] in
theorem each_sep (P Q : Fin 16 → sProp 𝕄) {l : List (Fin 16)} (h : l.Nodup) :
    each (fun j => iprop(P j ∗ Q j)) l = iprop(each P l ∗ each Q l) := by
  rw [each_eq _ h, each_eq _ h, each_eq _ h, bigSep_sep']

omit [FloatOps F] in
/-- The first chunk and the others. -/
theorem each_head (P : Fin 16 → sProp 𝕄) : each P all = iprop(P 0 ∗ each P all.tail) := rfl

/-- A phase whose step at chunk `j` takes `P j` to `Q j`, and a loop assertion from the chunks left before it to those
    left after it, takes all the chunks' `P` to all the chunks' `Q`. -/
theorem wp_chunks (c : Dev nD) (step : Fin 16 → Prog (TpuEff nD τ sig (Elt F) Λ₀ .tc) PUnit) (P Q : Fin 16 → sProp 𝕄) (R : List (Fin 16) → sProp 𝕄)
    (h : ∀ j l {α : Type} (k : PUnit → Prog (TpuEff nD τ sig (Elt F) Λ₀ .tc) α) (Kt : α → sProp 𝕄),
      iprop(known m ρ K ∗ P j ∗ R (j :: l) ∗ ((Q j ∗ R l) -∗ run c (k ⟨⟩) Kt)) ⊢ run c (step j >>= k) Kt) :
    ∀ (l : List (Fin 16)) {α : Type} (k : PUnit → Prog (TpuEff nD τ sig (Elt F) Λ₀ .tc) α) (Kt : α → sProp 𝕄),
      iprop(known m ρ K ∗ each P l ∗ R l ∗ ((each Q l ∗ R []) -∗ run c (k ⟨⟩) Kt)) ⊢ run c (chunks step l >>= k) Kt
  | [], α, k, Kt => by
    show _ ⊢ run c (k ⟨⟩) Kt
    iintro ⟨-, HP, HR, Hk⟩
    iapply Hk
    isplitl [HP]; · iexact HP
    iexact HR
  | j :: l, α, k, Kt => by
    rw [show chunks step (j :: l) >>= k = step j >>= fun _ => chunks step l >>= k from bind_assoc _ _ _]
    show iprop(known m ρ K ∗ (P j ∗ each P l) ∗ R (j :: l) ∗ (((Q j ∗ each Q l) ∗ R []) -∗ run c (k ⟨⟩) Kt)) ⊢ _
    iintro ⟨#HK, ⟨HPj, HPl⟩, HR, Hk⟩
    iapply (h j l (fun _ => chunks step l >>= k) Kt)
    isplitr; · iexact HK
    isplitl [HPj]; · iexact HPj
    isplitl [HR]; · iexact HR
    iintro ⟨HQj, HR⟩
    iapply (wp_chunks c step P Q R h l k Kt)
    isplitr; · iexact HK
    isplitl [HPl]; · iexact HPl
    isplitl [HR]; · iexact HR
    iintro ⟨HQl, HR⟩
    iapply Hk
    isplitr [HR]
    · isplitl [HQj] <;> iassumption
    · iexact HR

/-! ## The sets the accesses touch, and the units the transfers pay -/

omit [FloatOps F] in
theorem stage_set (j : Fin 16) : (rM.access (stageR j)).set = (stageR j).set := View.set_slice_whole cc0_scratch0 (stageR j)
omit [FloatOps F] in
theorem own_set (c : Dev nD) : (oM.access (ownR c)).set = (ownR c).set := View.set_slice_whole cc0_stg1_0 (ownR c)
omit [FloatOps F] in
theorem land_set (c : Dev nD) (j : Fin 16) : (landM oM c j).view.set = (landR c j).set := View.set_slice_whole cc0_stg1_0 (landR c j)
omit [FloatOps F] in
theorem fwd_set (c : Dev nD) (j : Fin 16) : (fwdM oM c j).view.set = (fwdR c j).set := View.set_slice_whole cc0_stg1_0 (fwdR c j)
omit [FloatOps F] in
theorem stageM_set (j : Fin 16) : (stageM rM j).view.set = (stageR j).set := View.set_slice_whole cc0_scratch0 (stageR j)

omit [FloatOps F] in
theorem credit_stage (j : Fin 16) : (stageM rM j).view.dmaCredit = N := rfl
omit [FloatOps F] in
theorem credit_land (c : Dev nD) (j : Fin 16) : (landM oM c j).view.dmaCredit = N := rfl
omit [FloatOps F] in
theorem credit_fwd (c : Dev nD) (j : Fin 16) : (fwdM oM c j).view.dmaCredit = N := rfl

/-! ## The pieces of the steps -/

/-- Device `c`'s block of `x`, in its staging buffer. -/
def xPts (c : Dev nD) : sProp 𝕄 := (xM : Memref sig .tc .vmem S2048x1024 .bf16).view.loc (c : Thread nD τ) ↦{fullShare} xstg m ρ c

/-- A chunk of the scratch buffer, with whatever it holds. -/
def stAny (c : Dev nD) (S : Finset S1024x512.Idx) : sProp 𝕄 := iprop(∃ f, stPts (F := F) c S f)

/-- Device `c` owes `O`, whatever it has waited for. -/
def owing (c : Dev nD) (O : CellTallies nD τ sig Unit) : sProp 𝕄 := iprop(∃ W, owes (c : Thread nD τ) O W)

/-- Filling chunk `j` of the scratch buffer. -/
theorem wp_fill (c : Dev nD) (j : Fin 16) {α : Type} (k : PUnit → Prog (TpuEff nD τ sig (Elt F) Λ₀ .tc) α) (Kt : α → sProp 𝕄) :
    iprop(stAny c (stageR j).set ∗ xPts m ρ c ∗ ((stPts c (stageR j).set (stageF m ρ c) ∗ xPts m ρ c) -∗ run c (k ⟨⟩) Kt))
      ⊢ run c (fill xM rM (Memref.isWhole_whole _) c j >>= k) Kt := by
  unfold fill stAny xPts stPts run
  simp only [Prog.lift, Prog.bind_op, Prog.bind_ret, Prog.pure_eq_ret]
  iintro ⟨⟨%f, Hs⟩, Hx, Hk⟩
  iapply (wp_load 𝒱₀ (c : Thread nD τ) none Set.univ (m := xM) (Finset.subset_univ _)) $$ Hx; iintro Hx
  iapply (wp_load_rect 𝒱₀ (c : Thread nD τ) none Set.univ (m := rM) (r := stageR j) (stage_set j).le) $$ Hs; iintro Hs
  iapply (wp_store 𝒱₀ (c : Thread nD τ) none Set.univ (m := rM) (r := stageR j) (Mk := Finset.univ) (stage_set j).le) $$ Hs; iintro Hs
  ihave Hs := (Entails.of_eq (pointsTo_congr (fill_agrees m ρ c j f))) $$ Hs
  iapply Hk
  isplitl [Hs] <;> iassumption

/-- Shipping chunk `j` across x. -/
theorem wp_ship (c n : Dev nD) (hn : n = xp c) (j : Fin 16) {hsc : (landM oM c j).view.ref.isScScratch = false}
    {hsrc : (stageM rM j).view.WordExact} {hdst : (landM oM c j).view.WordExact}
    {hsem : DmaTarget.Typed .vmem (.dma (semAt cc0_scratch2 j)) (.remote (Dev.tc n : Thread nD τ) (landM oM c j) (.dma (semAt cc0_scratch1 j)) hsc)}
    {α : Type} (O : CellTallies nD τ sig Unit) (k : PUnit → Prog (TpuEff nD τ sig (Elt F) Λ₀ .tc) α) (Kt : α → sProp 𝕄) :
    iprop(known m ρ K ∗ stPts c (stageR j).set (stageF m ρ c) ∗ outAny (xp c) (landR c j).set
        ∗ dutyTok ER (cell c (some (0, j))) 0 false ∗ dutyTok ER (cell (xp c) (some (1, j))) 0 false
        ∗ owing c (O + tallyAt (cell (xp c) (some (1, j))) () N)
        ∗ ((cred (tallyAt (cell c (some (0, j))) () N) ∗ owing c O) -∗ run c (k ⟨⟩) Kt))
      ⊢ run c (.op (.enqueueDma (stageM rM j) (.remote (Dev.tc n : Thread nD τ) (landM oM c j) (.dma (semAt cc0_scratch1 j)) hsc)
          (.dma (semAt cc0_scratch2 j)) hsrc hdst hsem) k) Kt := by
  subst hn
  unfold owing outAny
  iintro ⟨#HK, Hs, ⟨%f, Hd⟩, Ht, Ht', ⟨%W, HO⟩, Hk⟩
  iapply (Rounds.wp_send_pointsTo 𝒱₀ ER (sched m ρ) (c : Thread nD τ) none (κ₁ := K (c, some (0, j))) (κ₂ := K (xp c, some (1, j)))
    (c' := (xp c : Thread nD τ)) (src := stageM rM j) (dst := landM oM c j) (sS := osem (0, j)) (sem := osem (1, j)) (fs := stageF m ρ c)
    (r₁ := 0) (r₂ := 0) (d₁ := false) (d₂ := false) (fd := f)
    (by rw [duties_xfer]; exact Finset.mem_singleton_self _) (by rw [duties_xfer]; exact Finset.mem_singleton_self _)
    () () N (credit_land c j) (amount_xfer m ρ c (0, j) false) (amount_xfer m ρ (xp c) (1, j) false) O rfl (W := W)
    (by rw [payload_xfer, stageM_set]; exact BI.Entails.refl _)
    (by
      rw [payload_xfer, land_set]
      refine (Entails.of_eq (pointsTo_congr (ship_agrees m ρ c j f))).trans ?_
      unfold xferPay outPts
      rw [← land_xp (xp c) j, xp_xp])) $$ [Hs Hd HO Ht Ht']
  · isplitr; · iapply (known_inv m ρ K c (some (0, j))) $$ HK
    isplitr; · iapply (known_inv m ρ K (xp c) (some (1, j))) $$ HK
    isplitl [Hs]; · rw [stageM_set]; unfold stPts; iexact Hs
    isplitl [Hd]; · rw [land_set]; unfold outPts; iexact Hd
    isplitl [HO]; · iexact HO
    isplitl [Ht]; · iexact Ht
    isplitr; · iapply (known_reached m ρ K c (some (0, j))) $$ HK
    isplitl [Ht']; · iexact Ht'
    iapply (known_reached m ρ K (xp c) (some (1, j))) $$ HK
  iintro ⟨Hc, HO⟩
  iapply Hk
  isplitl [Hc]; · iexact Hc
  iexists W; iexact HO

/-- Forwarding chunk `j` across y. -/
theorem wp_forward (c n : Dev nD) (hn : n = yp c) (j : Fin 16) {hsc : (fwdM oM c j).view.ref.isScScratch = false}
    {hsrc hdst : (fwdM oM c j).view.WordExact}
    {hsem : DmaTarget.Typed .vmem (.dma (semAt cc0_scratch4 j)) (.remote (Dev.tc n : Thread nD τ) (fwdM oM c j) (.dma (semAt cc0_scratch3 j)) hsc)}
    {α : Type} (O : CellTallies nD τ sig Unit) (k : PUnit → Prog (TpuEff nD τ sig (Elt F) Λ₀ .tc) α) (Kt : α → sProp 𝕄) :
    iprop(known m ρ K ∗ outPts c (fwdR c j).set (outF m ρ c) ∗ outAny (yp c) (fwdR c j).set
        ∗ dutyTok ER (cell c (some (2, j))) 0 false ∗ dutyTok ER (cell (yp c) (some (3, j))) 0 false
        ∗ owing c (O + tallyAt (cell (yp c) (some (3, j))) () N)
        ∗ ((cred (tallyAt (cell c (some (2, j))) () N) ∗ owing c O) -∗ run c (k ⟨⟩) Kt))
      ⊢ run c (.op (.enqueueDma (fwdM oM c j) (.remote (Dev.tc n : Thread nD τ) (fwdM oM c j) (.dma (semAt cc0_scratch3 j)) hsc)
          (.dma (semAt cc0_scratch4 j)) hsrc hdst hsem) k) Kt := by
  subst hn
  unfold owing outAny
  iintro ⟨#HK, Hs, ⟨%f, Hd⟩, Ht, Ht', ⟨%W, HO⟩, Hk⟩
  iapply (Rounds.wp_send_pointsTo 𝒱₀ ER (sched m ρ) (c : Thread nD τ) none (κ₁ := K (c, some (2, j))) (κ₂ := K (yp c, some (3, j)))
    (c' := (yp c : Thread nD τ)) (src := fwdM oM c j) (dst := fwdM oM c j) (sS := osem (2, j)) (sem := osem (3, j)) (fs := outF m ρ c)
    (r₁ := 0) (r₂ := 0) (d₁ := false) (d₂ := false) (fd := f)
    (by rw [duties_xfer]; exact Finset.mem_singleton_self _) (by rw [duties_xfer]; exact Finset.mem_singleton_self _)
    () () N (credit_fwd c j) (amount_xfer m ρ c (2, j) false) (amount_xfer m ρ (yp c) (3, j) false) O rfl (W := W)
    (by rw [payload_xfer, fwd_set]; exact BI.Entails.refl _)
    (by
      rw [payload_xfer, fwd_set]
      refine (Entails.of_eq (pointsTo_congr (fwd_agrees m ρ c j f))).trans ?_
      unfold xferPay outPts
      rw [yp_yp])) $$ [Hs Hd HO Ht Ht']
  · isplitr; · iapply (known_inv m ρ K c (some (2, j))) $$ HK
    isplitr; · iapply (known_inv m ρ K (yp c) (some (3, j))) $$ HK
    isplitl [Hs]; · rw [fwd_set]; unfold outPts; iexact Hs
    isplitl [Hd]; · rw [fwd_set]; unfold outPts; iexact Hd
    isplitl [HO]; · iexact HO
    isplitl [Ht]; · iexact Ht
    isplitr; · iapply (known_reached m ρ K c (some (2, j))) $$ HK
    isplitl [Ht']; · iexact Ht'
    iapply (known_reached m ρ K (yp c) (some (3, j))) $$ HK
  iintro ⟨Hc, HO⟩
  iapply Hk
  isplitl [Hc]; · iexact Hc
  iexists W; iexact HO

/-- Waiting at a transfer cell: what the transfer hands over. -/
theorem wp_await (c : Dev nD) (key : Xfer) {w : TpuEff nD τ sig (Elt F) Λ₀ (c : Thread nD τ).2 PUnit}
    (hw : ∀ Q : PUnit → sProp 𝕄, wpE (defs₀ (F := F)) 𝒱₀ (c : Thread nD τ) none Set.univ w Q = waitSpec (c : Thread nD τ) Set.univ (osem key) N Q)
    (O : CellTallies nD τ sig Unit) (hO : (levels : sProp 𝕄) ⊢ MayWait (c : Thread nD τ) (osem key) () O)
    {α : Type} (k : PUnit → Prog (TpuEff nD τ sig (Elt F) Λ₀ .tc) α) (Kt : α → sProp 𝕄) :
    iprop(known m ρ K ∗ cred (tallyAt (cell c (some key)) () N) ∗ atPos ER (cell c (some key)) 0 ∅ 0 ∗ owing c O
        ∗ ((xferPay m ρ c key ∗ atPos ER (cell c (some key)) (0 + 1) ∅ 0 ∗ owing c O) -∗ run c (k ⟨⟩) Kt))
      ⊢ run c (.op w k) Kt := by
  have hK : known m ρ K ⊢ MayWait (c : Thread nD τ) (osem key) () O := (known_levels m ρ K).trans hO
  unfold owing
  iintro ⟨#HK, Hc, Hat, ⟨%W, HO⟩, Hk⟩
  iapply (Rounds.wp_wait_rest_token 𝒱₀ ER (sched m ρ) (c : Thread nD τ) none (κ := K (c, some key)) hw (Set.mem_univ _) () (O := O) (W := W)
    (R := 0) (m := 0) (T := ∅) (by rw [Nat.zero_add, expect_xfer])) $$ [Hc Hat HO]
  · isplitr; · iapply (known_inv m ρ K c (some key)) $$ HK
    isplitl [Hc]; · iexact Hc
    isplitl [HO]; · iexact HO
    isplitr; · iapply hK $$ HK
    iexact Hat
  iintro ⟨HO, Hat, -, Hpay⟩
  ihave Hp := (Entails.of_eq (rest_xfer m ρ c key)) $$ Hpay
  iapply Hk
  isplitl [Hp]; · iexact Hp
  isplitl [Hat]; · iexact Hat
  iexists _; iexact HO

/-- The same, of the wait as the body spells it: any transfer of the chunk's size on that cell's semaphore. -/
theorem wp_await_dma (c : Dev nD) (key : Xfer) {q : DmaSem sig} (hq : q = dsem key) {src dst : Memref sig .tc .vmem S64x512 .bf16}
    {hsrc : src.view.WordExact} {hdst : dst.view.WordExact} (hN : dst.view.dmaCredit = N)
    (O : CellTallies nD τ sig Unit) (hO : (levels : sProp 𝕄) ⊢ MayWait (c : Thread nD τ) (osem key) () O)
    {α : Type} (k : PUnit → Prog (TpuEff nD τ sig (Elt F) Λ₀ .tc) α) (Kt : α → sProp 𝕄) :
    iprop(known m ρ K ∗ cred (tallyAt (cell c (some key)) () N) ∗ atPos ER (cell c (some key)) 0 ∅ 0 ∗ owing c O
        ∗ ((xferPay m ρ c key ∗ atPos ER (cell c (some key)) (0 + 1) ∅ 0 ∗ owing c O) -∗ run c (k ⟨⟩) Kt))
      ⊢ run c (.op (.waitDma2 q src dst hsrc hdst) k) Kt := by
  subst hq
  exact wp_await m ρ K c key (fun Q => by rw [wpE_waitDma2_eq, hN]) O hO k Kt

end Cert.KernelIdealProof

end
-- ==== Proof.KernelIdealBody.lean ====
/-
# The body on one device

From the rows of its result, its scratch buffer, its block of `x`, its positions at its cells and the payments it must
make, device `c`'s body runs to the whole result, its cells closed.
-/
module

public import proofs.«01_k».proof.Proof.KernelIdealSteps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

omit [FloatOps F] in
/-- Over all transfer cells: row by row. -/
theorem rows_eq (Φ : Xfer → sProp 𝕄) : bigSep Finset.univ Φ
    = iprop((bigSep Finset.univ fun j : Fin 16 => Φ (0, j)) ∗ (bigSep Finset.univ fun j : Fin 16 => Φ (1, j))
        ∗ (bigSep Finset.univ fun j : Fin 16 => Φ (2, j)) ∗ (bigSep Finset.univ fun j : Fin 16 => Φ (3, j))) := by
  rw [bigSep_univ_prod, bigSep_univ_eq_bigSepL [0, 1, 2, 3] (by decide) (by decide), bigSepL_cons_cons, bigSepL_cons_cons, bigSepL_cons_cons,
    bigSepL_singleton]
  rfl

/-! ## The steps, chunk by chunk -/

section StepForms
variable (c : Dev nD)

/-- A position at a transfer cell, before and after its wait. -/
abbrev before (r : Fin 4) (j : Fin 16) : sProp 𝕄 := atPos ER (cell c (some (r, j))) 0 ∅ 0
abbrev past (r : Fin 4) (j : Fin 16) : sProp 𝕄 := atPos ER (cell c (some (r, j))) (0 + 1) ∅ 0
/-- The right to wait for a transfer. -/
abbrev due (r : Fin 4) (j : Fin 16) : sProp 𝕄 := cred (tallyAt (cell c (some (r, j))) () N)
/-- The right to pay on a transfer cell of device `n`. -/
abbrev pay (n : Dev nD) (r : Fin 4) (j : Fin 16) : sProp 𝕄 := dutyTok ER (cell n (some (r, j))) 0 false

def shipP (j : Fin 16) : sProp 𝕄 := iprop(stAny c (stageR j).set ∗ outAny (xp c) (landR c j).set ∗ pay c 0 j ∗ pay (xp c) 1 j)
def shipR (l : List (Fin 16)) : sProp 𝕄 := iprop(xPts m ρ c ∗ owing c (owedShip c l))

def passP (j : Fin 16) : sProp 𝕄 := iprop(due c 1 j ∗ before c 1 j ∗ outAny (yp c) (fwdR c j).set ∗ pay c 2 j ∗ pay (yp c) 3 j)
def passQ (j : Fin 16) : sProp 𝕄 := iprop(past c 1 j ∗ due c 2 j)

def arriveP (j : Fin 16) : sProp 𝕄 := iprop(due c 3 j ∗ before c 3 j)
def arriveQ (j : Fin 16) : sProp 𝕄 := iprop(past c 3 j ∗ outPts c (fwdR (yp c) j).set (outF m ρ c))

def leaveP (j : Fin 16) : sProp 𝕄 := iprop((due c 0 j ∗ before c 0 j) ∗ due c 2 j ∗ before c 2 j)
def leaveQ (j : Fin 16) : sProp 𝕄 :=
  iprop((past c 0 j ∗ stPts c (stageR j).set (stageF m ρ c)) ∗ past c 2 j ∗ outPts c (fwdR c j).set (outF m ρ c))

omit [FloatOps F] in
theorem owedShip_cons (j : Fin 16) (l : List (Fin 16)) : owedShip c (j :: l) = owedShip c l + tallyAt (cell (xp c) (some (1, j))) () N :=
  (add_assoc _ _ _).symm
theorem owedShip_nil : owedShip c [] = owedRow (yp c) 3 all := add_zero _

omit [FloatOps F] in
theorem pay_0 (j : Fin 16) : xferPay m ρ c (0, j) = stPts c (stageR j).set (stageF m ρ c) := rfl
omit [FloatOps F] in
theorem pay_1 (j : Fin 16) : xferPay m ρ c (1, j) = outPts c (fwdR c j).set (outF m ρ c) := rfl
omit [FloatOps F] in
theorem pay_2 (j : Fin 16) : xferPay m ρ c (2, j) = outPts c (fwdR c j).set (outF m ρ c) := rfl
omit [FloatOps F] in
theorem pay_3 (j : Fin 16) : xferPay m ρ c (3, j) = outPts c (fwdR (yp c) j).set (outF m ρ c) := rfl

theorem owedShip_all : owedShip c all = owedShip c all.tail + tallyAt (cell (xp c) (some (1, 0))) () N := owedShip_cons c 0 all.tail

/-- Shipping chunk `j`, as the body spells it. -/
theorem wp_ship_step (j : Fin 16) (O : CellTallies nD τ sig Unit) {α : Type} (k : PUnit → Prog (TpuEff nD τ sig (Elt F) Λ₀ .tc) α) (Kt : α → sProp 𝕄) :
    iprop(known m ρ K ∗ stPts c (stageR j).set (stageF m ρ c) ∗ outAny (xp c) (landR c j).set ∗ pay c 0 j ∗ pay (xp c) 1 j
        ∗ owing c (O + tallyAt (cell (xp c) (some (1, j))) () N) ∗ ((due c 0 j ∗ owing c O) -∗ run c (k ⟨⟩) Kt))
      ⊢ run c (ship oM (Memref.isWhole_whole _) rM (Memref.isWhole_whole _) cc0_scratch1 cc0_scratch2 c j >>= k) Kt :=
  wp_ship m ρ K c _ (dev1_eq c) j O k Kt

theorem wp_fillShip (j : Fin 16) (l : List (Fin 16)) {α : Type} (k : PUnit → Prog (TpuEff nD τ sig (Elt F) Λ₀ .tc) α) (Kt : α → sProp 𝕄) :
    iprop(known m ρ K ∗ shipP c j ∗ shipR m ρ c (j :: l) ∗ ((due c 0 j ∗ shipR m ρ c l) -∗ run c (k ⟨⟩) Kt))
      ⊢ run c (fillShip xM oM (Memref.isWhole_whole _) rM (Memref.isWhole_whole _) cc0_scratch1 cc0_scratch2 c j >>= k) Kt := by
  unfold fillShip shipP shipR
  rw [owedShip_cons, bind_assoc]
  iintro ⟨#HK, ⟨Hs, Hd, Ht, Ht'⟩, ⟨Hx, HO⟩, Hk⟩
  iapply (wp_fill m ρ c j _ Kt)
  isplitl [Hs]; · iexact Hs
  isplitl [Hx]; · iexact Hx
  iintro ⟨Hs, Hx⟩
  iapply (wp_ship_step m ρ K c j (owedShip c l) k Kt)
  isplitr; · iexact HK
  isplitl [Hs]; · iexact Hs
  isplitl [Hd]; · iexact Hd
  isplitl [Ht]; · iexact Ht
  isplitl [Ht']; · iexact Ht'
  isplitl [HO]; · iexact HO
  iintro ⟨Hc, HO⟩
  iapply Hk
  isplitl [Hc]; · iexact Hc
  isplitl [Hx] <;> iassumption

theorem wp_keep {α : Type} (k : PUnit → Prog (TpuEff nD τ sig (Elt F) Λ₀ .tc) α) (Kt : α → sProp 𝕄) :
    iprop(outAny c (ownR c).set ∗ xPts m ρ c ∗ ((outPts c (ownR c).set (outF m ρ c) ∗ xPts m ρ c) -∗ run c (k ⟨⟩) Kt))
      ⊢ run c (keep xM oM (Memref.isWhole_whole _) c >>= k) Kt := by
  unfold keep outAny xPts outPts run
  simp only [Prog.lift, Prog.bind_op, Prog.bind_ret, Prog.pure_eq_ret]
  iintro ⟨⟨%f, Ho⟩, Hx, Hk⟩
  iapply (wp_load 𝒱₀ (c : Thread nD τ) none Set.univ (m := xM) (Finset.subset_univ _)) $$ Hx; iintro Hx
  iapply (wp_load_rect 𝒱₀ (c : Thread nD τ) none Set.univ (m := oM) (r := ownR c) (own_set c).le) $$ Ho; iintro Ho
  iapply (wp_store 𝒱₀ (c : Thread nD τ) none Set.univ (m := oM) (r := ownR c) (Mk := Finset.univ) (own_set c).le) $$ Ho; iintro Ho
  ihave Ho := (Entails.of_eq (pointsTo_congr (keep_agrees m ρ c f))) $$ Ho
  iapply Hk
  isplitl [Ho] <;> iassumption

theorem wp_passOn (j : Fin 16) (l : List (Fin 16)) {α : Type} (k : PUnit → Prog (TpuEff nD τ sig (Elt F) Λ₀ .tc) α) (Kt : α → sProp 𝕄) :
    iprop(known m ρ K ∗ passP c j ∗ owing c (owedRow (yp c) 3 (j :: l)) ∗ ((passQ c j ∗ owing c (owedRow (yp c) 3 l)) -∗ run c (k ⟨⟩) Kt))
      ⊢ run c (passOn oM (Memref.isWhole_whole _) rM (Memref.isWhole_whole _) cc0_scratch2 cc0_scratch3 cc0_scratch4 c j >>= k) Kt := by
  unfold passOn passP passQ
  simp only [Prog.lift, Prog.bind_op, Prog.bind_ret, Prog.pure_eq_ret]
  iintro ⟨#HK, ⟨Hc, Hat, Hd, Ht, Ht'⟩, HO, Hk⟩
  iapply (wp_await_dma m ρ K c (1, j) rfl (credit_land c j) _
    ((Entails.of_eq levels_eq).trans (mayWait_pass c j (j :: l))) _ Kt)
  isplitr; · iexact HK
  isplitl [Hc]; · iexact Hc
  isplitl [Hat]; · iexact Hat
  isplitl [HO]; · iexact HO
  iintro ⟨Hp, Hat, HO⟩
  ihave Hp := (Entails.of_eq (pay_1 m ρ c j)) $$ Hp
  iapply (wp_forward m ρ K c _ (dev2_eq c) j (owedRow (yp c) 3 l) k Kt)
  isplitr; · iexact HK
  isplitl [Hp]; · iexact Hp
  isplitl [Hd]; · iexact Hd
  isplitl [Ht]; · iexact Ht
  isplitl [Ht']; · iexact Ht'
  isplitl [HO]; · iexact HO
  iintro ⟨Hc, HO⟩
  iapply Hk
  isplitr [HO]
  · isplitl [Hat] <;> iassumption
  · iexact HO

theorem free_wait (sm : SemLoc sig) : (levels : sProp 𝕄) ⊢ MayWait (c : Thread nD τ) sm () 0 := by rw [MayWait_zero]; iintro -; iempintro

theorem wp_arrive (j : Fin 16) (l : List (Fin 16)) {α : Type} (k : PUnit → Prog (TpuEff nD τ sig (Elt F) Λ₀ .tc) α) (Kt : α → sProp 𝕄) :
    iprop(known m ρ K ∗ arriveP c j ∗ owing c 0 ∗ ((arriveQ m ρ c j ∗ owing c 0) -∗ run c (k ⟨⟩) Kt))
      ⊢ run c (arrive oM (Memref.isWhole_whole _) cc0_scratch4 c j >>= k) Kt := by
  unfold arrive arriveP arriveQ
  simp only [Prog.lift, Prog.bind_op, Prog.bind_ret, Prog.pure_eq_ret]
  iintro ⟨#HK, ⟨Hc, Hat⟩, HO, Hk⟩
  iapply (wp_await_dma m ρ K c (3, j) rfl (credit_fwd c j) 0 (free_wait c _) _ Kt)
  isplitr; · iexact HK
  isplitl [Hc]; · iexact Hc
  isplitl [Hat]; · iexact Hat
  isplitl [HO]; · iexact HO
  iintro ⟨Hp, Hat, HO⟩
  ihave Hp := (Entails.of_eq (pay_3 m ρ c j)) $$ Hp
  iapply Hk
  isplitr [HO]
  · isplitl [Hat] <;> iassumption
  · iexact HO

theorem wp_leave (j : Fin 16) (l : List (Fin 16)) {α : Type} (k : PUnit → Prog (TpuEff nD τ sig (Elt F) Λ₀ .tc) α) (Kt : α → sProp 𝕄) :
    iprop(known m ρ K ∗ leaveP c j ∗ owing c 0 ∗ ((leaveQ m ρ c j ∗ owing c 0) -∗ run c (k ⟨⟩) Kt))
      ⊢ run c (leave oM (Memref.isWhole_whole _) rM (Memref.isWhole_whole _) cc0_scratch1 cc0_scratch3 c j >>= k) Kt := by
  unfold leave leaveP leaveQ
  simp only [Prog.lift, Prog.bind_op, Prog.bind_ret, Prog.pure_eq_ret]
  iintro ⟨#HK, ⟨⟨Hc, Hat⟩, Hc', Hat'⟩, HO, Hk⟩
  iapply (wp_await_dma m ρ K c (0, j) rfl (credit_stage j) 0 (free_wait c _) _ Kt)
  isplitr; · iexact HK
  isplitl [Hc]; · iexact Hc
  isplitl [Hat]; · iexact Hat
  isplitl [HO]; · iexact HO
  iintro ⟨Hp, Hat, HO⟩
  ihave Hp := (Entails.of_eq (pay_0 m ρ c j)) $$ Hp
  iapply (wp_await_dma m ρ K c (2, j) rfl (credit_fwd c j) 0 (free_wait c _) _ Kt)
  isplitr; · iexact HK
  isplitl [Hc']; · iexact Hc'
  isplitl [Hat']; · iexact Hat'
  isplitl [HO]; · iexact HO
  iintro ⟨Hp', Hat', HO⟩
  ihave Hp' := (Entails.of_eq (pay_2 m ρ c j)) $$ Hp'
  iapply Hk
  isplitr [HO]
  · isplitl [Hat Hp]
    · isplitl [Hat] <;> iassumption
    · isplitl [Hat'] <;> iassumption
  · iexact HO

end StepForms

/-! ## The rows, given away and put together -/

section Rows
variable (c : Dev nD)

omit [FloatOps F] in
/-- The scratch buffer is its sixteen chunks. -/
theorem stage_parts (f : (cc0_scratch0 : Ref sig .tc).ty.Contents (Elt F)) :
    stPts c Finset.univ f = bigSep Finset.univ fun j : Fin 16 => stPts (F := F) c (stageR j).set f := by
  unfold stPts
  rw [← stage_cover]
  exact pointsTo_biUnion Finset.univ _ fun t _ t' _ h => stage_disj h

omit [FloatOps F] in
/-- Sixteen chunks of the result. -/
theorem fwd_parts (d : Dev nD) (f : (cc0_stg1_0 : Ref sig .tc).ty.Contents (Elt F)) :
    outPts c (fwdAll d) f = bigSep Finset.univ fun j : Fin 16 => outPts (F := F) c (fwdR d j).set f := by
  unfold outPts fwdAll
  exact pointsTo_biUnion Finset.univ _ fun t _ t' _ h => fwd_disj h

omit [FloatOps F] in
/-- Disjoint sets of elements, held together. -/
theorem pointsTo_union_eq (ℓ : Loc nD τ sig) {I J : Finset (Idx ℓ)} (h : Disjoint I J) {q : PosShare TreeShare} {f : Buf (Elt F) ℓ} :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
/-- The result is the device's own half, the sixteen chunks from across x and the sixteen from across y. -/
theorem out_parts (f : (cc0_stg1_0 : Ref sig .tc).ty.Contents (Elt F)) :
    outPts c Finset.univ f = iprop(outPts c (ownR c).set f ∗ (bigSep Finset.univ fun j : Fin 16 => outPts (F := F) c (fwdR c j).set f)
      ∗ (bigSep Finset.univ fun j : Fin 16 => outPts (F := F) c (fwdR (yp c) j).set f)) := by
  rw [← fwd_parts, ← fwd_parts]
  unfold outPts
  rw [← out_cover c]
  rw [pointsTo_union_eq _ (own_fwd_disj c), pointsTo_union_eq _ (fwd_yp_disj c)]

omit [FloatOps F] in
/-- What the device pays on the barrier cell across x. -/
theorem barPay_x : barPay (F := F) (xp c) false = bigSep Finset.univ fun j : Fin 16 => outAny c (fwdR c j).set :=
  bigSep_congr fun j _ => by
    show outAny (xp (xp c)) (landR (xp c) j).set = _
    rw [xp_xp, land_xp]
omit [FloatOps F] in
/-- What the device pays on the barrier cell across y. -/
theorem barPay_y : barPay (F := F) (yp c) true = bigSep Finset.univ fun j : Fin 16 => outAny c (fwdR (yp c) j).set :=
  bigSep_congr fun j _ => by
    show outAny (yp (yp c)) (fwdR (yp c) j).set = _
    rw [yp_yp]

omit [FloatOps F] in
/-- The transfer cells close: their counters at zero. -/
theorem close_all : iprop(known m ρ K ∗ bigSep Finset.univ fun k : Xfer => (atPos ER (cell c (some k)) (0 + 1) ∅ 0 : sProp 𝕄))
    ⊢ iprop(|={Set.univ}=> bigSep Finset.univ fun k : Xfer => (semVal (cell c (some k)) 0 : sProp 𝕄)) := by
  refine (bigSep_with_persistent (Ψ := fun k : Xfer => iprop(|={Set.univ}=> (semVal (cell c (some k)) 0 : sProp 𝕄))) fun k _ => ?_).trans (bigSep_fupd _ _)
  exact (sep_mono_left (known_inv m ρ K c (some k))).trans
    (Rounds.cell_close ER (sched m ρ) (Set.mem_univ (K (c, some k))) (fun h => h) (R := 0 + 1) (duties_later m ρ (cell c (some k))))

end Rows

/-! ## The body's phases -/

section Phases
variable (c : Dev nD)

/-- The rights to pay that the transfers of chunk `j` use up. -/
def pays (j : Fin 16) : sProp 𝕄 := iprop(pay c 0 j ∗ pay (xp c) 1 j ∗ pay c 2 j ∗ pay (yp c) 3 j)

/-- What a device starts from: what all know, its positions at its cells, its rights to pay. -/
def ghost : sProp 𝕄 :=
  iprop(known m ρ K ∗ atPos ER (cell c none) 0 ∅ 0 ∗ (bigSep Finset.univ fun k : Xfer => atPos ER (cell c (some k)) 0 ∅ 0)
    ∗ dutyTok ER (cell (xp c) none) 0 false ∗ dutyTok ER (cell (yp c) none) 0 true ∗ bigSep Finset.univ fun j : Fin 16 => pays c j)

/-- Its rights to wait for what others will pay. -/
def credits : sProp 𝕄 := iprop(cred (tallyAt (cell c none) () 2) ∗ bigSep Finset.univ fun j : Fin 16 => iprop(due c 1 j ∗ due c 3 j))

/-- What the phases start from, the two signals given. -/
def phasesPre : sProp 𝕄 :=
  iprop(known m ρ K ∗ (bigSep Finset.univ fun j : Fin 16 => stAny c (stageR j).set) ∗ xPts m ρ c ∗ outAny c (ownR c).set
    ∗ atPos ER (cell c none) 0 ∅ 0 ∗ (bigSep Finset.univ fun k : Xfer => atPos ER (cell c (some k)) 0 ∅ 0)
    ∗ (bigSep Finset.univ fun j : Fin 16 => pays c j) ∗ credits c ∗ owing c (owedShip c all))

/-- What they leave. -/
def phasesPost : sProp 𝕄 :=
  iprop(stPts c Finset.univ (stageF m ρ c) ∗ xPts m ρ c ∗ outPts c Finset.univ (outF m ρ c)
    ∗ atPos ER (cell c none) (0 + 1) ∅ 0 ∗ (bigSep Finset.univ fun k : Xfer => atPos ER (cell c (some k)) (0 + 1) ∅ 0) ∗ owing c 0)

/-- The wait for both neighbours: the rows the device's transfers will fill come with it. -/
theorem wp_ready {α : Type} (k : PUnit → Prog (TpuEff nD τ sig (Elt F) Λ₀ .tc) α) (Kt : α → sProp 𝕄) :
    iprop(known m ρ K ∗ cred (tallyAt (cell c none) () 2) ∗ atPos ER (cell c none) 0 ∅ 0 ∗ owing c (owedShip c all)
        ∗ ((barPay c false ∗ barPay c true ∗ atPos ER (cell c none) (0 + 1) ∅ 0 ∗ owing c (owedShip c all)) -∗ run c (k ⟨⟩) Kt))
      ⊢ run c (semWaitWord barS 2#32 >>= k) Kt := by
  unfold owing run
  simp only [semWaitWord, Prog.lift, Prog.bind_op, Prog.bind_ret, Prog.pure_eq_ret]
  iintro ⟨#HK, Hc, Hat, ⟨%W, HO⟩, Hk⟩
  iapply (Rounds.wp_wait_rest_token 𝒱₀ ER (sched m ρ) (c : Thread nD τ) none (κ := K (c, none))
    (wpE_semWait_eq 𝒱₀ (c : Thread nD τ) none Set.univ) (Set.mem_univ _) () (O := owedShip c all) (W := W) (R := 0) (m := 0) (T := ∅)
    (by rw [expect_bar]; decide)) $$ [Hc Hat HO]
  · isplitr; · iapply (known_inv m ρ K c none) $$ HK
    isplitl [Hc]; · iexact Hc
    isplitl [HO]; · iexact HO
    isplitr; · iapply ((known_levels m ρ K).trans ((Entails.of_eq levels_eq).trans (mayWait_bar c all))) $$ HK
    iexact Hat
  iintro ⟨HO, Hat, -, Hpay⟩
  ihave Hp := (Entails.of_eq (rest_bar m ρ c)) $$ Hpay
  icases Hp with ⟨Hp, Hp'⟩
  iapply Hk
  isplitl [Hp]; · iexact Hp
  isplitl [Hp']; · iexact Hp'
  isplitl [Hat]; · iexact Hat
  iexists _; iexact HO

/-- The rows the first transfers fill, and those the second do, chunk by chunk. -/
theorem barPay_ship : barPay (F := F) c false = each (fun j => outAny (xp c) (landR c j).set) all := by rw [each_all]; rfl
theorem barPay_pass : barPay (F := F) c true = bigSep Finset.univ fun j : Fin 16 => outAny (yp c) (fwdR c j).set := rfl

/-- What shipping needs, gathered chunk by chunk. -/
theorem ship_gather {l : List (Fin 16)} (h : l.Nodup) : (each (shipP (F := F) c) l)
    = iprop(each (fun j => stAny c (stageR j).set) l ∗ each (fun j => outAny (xp c) (landR c j).set) l ∗ each (pay c 0) l ∗ each (pay (xp c) 1) l) := by
  rw [← each_sep _ _ h, ← each_sep _ _ h, ← each_sep _ _ h]
  rfl
theorem pass_gather : (each (passP (F := F) c) all)
    = iprop((bigSep Finset.univ (due c 1)) ∗ (bigSep Finset.univ (before c 1)) ∗ (bigSep Finset.univ fun j : Fin 16 => outAny (yp c) (fwdR c j).set)
      ∗ (bigSep Finset.univ (pay c 2)) ∗ bigSep Finset.univ (pay (yp c) 3)) := by
  rw [each_all, ← bigSep_sep', ← bigSep_sep', ← bigSep_sep', ← bigSep_sep']
  rfl
theorem pass_part : (each (passQ (F := F) c) all) = iprop((bigSep Finset.univ (past c 1)) ∗ bigSep Finset.univ (due c 2)) := by
  rw [each_all, ← bigSep_sep']
  rfl
theorem arrive_gather : (each (arriveP (F := F) c) all) = iprop((bigSep Finset.univ (due c 3)) ∗ bigSep Finset.univ (before c 3)) := by
  rw [each_all, ← bigSep_sep']
  rfl
theorem arrive_part : (each (arriveQ m ρ c) all)
    = iprop((bigSep Finset.univ (past c 3)) ∗ bigSep Finset.univ fun j : Fin 16 => outPts c (fwdR (yp c) j).set (outF m ρ c)) := by
  rw [each_all, ← bigSep_sep']
  rfl
theorem leave_gather : (each (leaveP (F := F) c) all)
    = iprop(((bigSep Finset.univ (due c 0)) ∗ bigSep Finset.univ (before c 0)) ∗ (bigSep Finset.univ (due c 2)) ∗ bigSep Finset.univ (before c 2)) := by
  rw [each_all, ← bigSep_sep', ← bigSep_sep', ← bigSep_sep']
  rfl
theorem leave_part : (each (leaveQ m ρ c) all)
    = iprop(((bigSep Finset.univ (past c 0)) ∗ bigSep Finset.univ fun j : Fin 16 => stPts c (stageR j).set (stageF m ρ c))
      ∗ (bigSep Finset.univ (past c 2)) ∗ bigSep Finset.univ fun j : Fin 16 => outPts c (fwdR c j).set (outF m ρ c)) := by
  rw [each_all, ← bigSep_sep', ← bigSep_sep', ← bigSep_sep']
  rfl

/-- The phases. -/
theorem wp_phases (Kt : PUnit → sProp 𝕄) :
    iprop(phasesPre m ρ K c ∗ (phasesPost m ρ c -∗ run c (pure ⟨⟩) Kt))
      ⊢ run c (phases xM oM (Memref.isWhole_whole _) rM (Memref.isWhole_whole _) cc0_scratch1 cc0_scratch2 cc0_scratch3 cc0_scratch4 c) Kt := by
  unfold phases phasesPre phasesPost credits pays
  rw [rows_eq, rows_eq, stage_parts, out_parts, bigSep_sep', bigSep_sep', bigSep_sep', bigSep_sep', ← each_all fun j => stAny c (stageR j).set,
    ← each_all (pay c 0), ← each_all (pay (xp c) 1),
    ← bind_pure (chunks (leave _ _ _ _ _ _ _) all)]
  iintro ⟨⟨#HK, Hst, Hx, Hown, HatB, ⟨Ha0, Ha1, Ha2, Ha3⟩, ⟨Ht0, Ht1, Ht2, Ht3⟩, ⟨HcB, Hc1, Hc3⟩, HO⟩, Hk⟩
  ihave Hst := (Entails.of_eq (each_head _)) $$ Hst
  icases Hst with ⟨Hs, Hst⟩
  ihave Ht0 := (Entails.of_eq (each_head _)) $$ Ht0
  icases Ht0 with ⟨Hp0, Ht0⟩
  ihave Ht1 := (Entails.of_eq (each_head _)) $$ Ht1
  icases Ht1 with ⟨Hp1, Ht1⟩
  -- the first chunk: fill, wait until both neighbours are ready, ship
  iapply (wp_fill m ρ c 0 _ Kt)
  isplitl [Hs]; · iexact Hs
  isplitl [Hx]; · iexact Hx
  iintro ⟨Hs, Hx⟩
  iapply (wp_ready m ρ K c _ Kt)
  isplitr; · iexact HK
  isplitl [HcB]; · iexact HcB
  isplitl [HatB]; · iexact HatB
  isplitl [HO]; · iexact HO
  iintro ⟨Hb, Hb', HatB, HO⟩
  ihave Hb := (Entails.of_eq ((barPay_ship c).trans (each_head _))) $$ Hb
  icases Hb with ⟨Hd, Hb⟩
  iapply (wp_ship_step m ρ K c 0 (owedShip c all.tail) _ Kt)
  isplitr; · iexact HK
  isplitl [Hs]; · iexact Hs
  isplitl [Hd]; · iexact Hd
  isplitl [Hp0]; · iexact Hp0
  isplitl [Hp1]; · iexact Hp1
  isplitl [HO]
  · iapply (Entails.of_eq (congrArg (owing c) (owedShip_all c))) $$ HO
  iintro ⟨Hc0, HO⟩
  -- the other chunks
  iapply (wp_chunks m ρ K c _ (shipP c) (due c 0) (shipR m ρ c) (fun j l _ k Kt => wp_fillShip m ρ K c j l k Kt) all.tail _ Kt)
  isplitr; · iexact HK
  isplitl [Hst Hb Ht0 Ht1]
  · rw [ship_gather c (by decide)]
    isplitl [Hst]; · iexact Hst
    isplitl [Hb]; · iexact Hb
    isplitl [Ht0] <;> iassumption
  isplitl [Hx HO]
  · unfold shipR; isplitl [Hx] <;> iassumption
  iintro ⟨Hc0', HR⟩
  unfold shipR
  rw [owedShip_nil]
  icases HR with ⟨Hx, HO⟩
  iapply (wp_keep m ρ c _ Kt)
  isplitl [Hown]; · iexact Hown
  isplitl [Hx]; · iexact Hx
  iintro ⟨Hown, Hx⟩
  iapply (wp_chunks m ρ K c _ (passP c) (passQ c) (fun l => owing c (owedRow (yp c) 3 l)) (fun j l _ k Kt => wp_passOn m ρ K c j l k Kt) all _ Kt)
  isplitr; · iexact HK
  isplitl [Hc1 Ha1 Hb' Ht2 Ht3]
  · rw [pass_gather]
    isplitl [Hc1]; · iexact Hc1
    isplitl [Ha1]; · iexact Ha1
    isplitl [Hb']; · iapply (Entails.of_eq (barPay_pass c)) $$ Hb'
    isplitl [Ht2] <;> iassumption
  isplitl [HO]; · iexact HO
  iintro ⟨HQ, HO⟩
  ihave HQ := (Entails.of_eq (pass_part c)) $$ HQ
  icases HQ with ⟨Ha1, Hc2⟩
  iapply (wp_chunks m ρ K c _ (arriveP c) (arriveQ m ρ c) (fun _ => owing c 0) (fun j l _ k Kt => wp_arrive m ρ K c j l k Kt) all _ Kt)
  isplitr; · iexact HK
  isplitl [Hc3 Ha3]
  · rw [arrive_gather]
    isplitl [Hc3] <;> iassumption
  isplitl [HO]; · iexact HO
  iintro ⟨HQ, HO⟩
  ihave HQ := (Entails.of_eq (arrive_part m ρ c)) $$ HQ
  icases HQ with ⟨Ha3, Hout3⟩
  iapply (wp_chunks m ρ K c _ (leaveP c) (leaveQ m ρ c) (fun _ => owing c 0) (fun j l _ k Kt => wp_leave m ρ K c j l k Kt) all _ Kt)
  isplitr; · iexact HK
  isplitl [Hc0 Hc0' Ha0 Hc2 Ha2]
  · rw [leave_gather, ← each_all (due c 0), each_head (due c 0)]
    isplitl [Hc0 Hc0' Ha0]
    · isplitl [Hc0 Hc0']
      · isplitl [Hc0] <;> iassumption
      iexact Ha0
    isplitl [Hc2] <;> iassumption
  isplitl [HO]; · iexact HO
  iintro ⟨HQ, HO⟩
  ihave HQ := (Entails.of_eq (leave_part m ρ c)) $$ HQ
  icases HQ with ⟨⟨Ha0, Hst⟩, Ha2, Hout1⟩
  iapply Hk
  isplitl [Hst]; · iexact Hst
  isplitl [Hx]; · iexact Hx
  isplitl [Hown Hout1 Hout3]
  · isplitl [Hown]; · iexact Hown
    isplitl [Hout1] <;> iassumption
  isplitl [HatB]; · iexact HatB
  isplitl [Ha0 Ha1 Ha2 Ha3]
  · isplitl [Ha0]; · iexact Ha0
    isplitl [Ha1]; · iexact Ha1
    isplitl [Ha2] <;> iassumption
  iexact HO

end Phases

/-! ## The whole body -/

/-- What device `c`'s body starts from, besides its staging buffers: the above at some names, its credits, its scratch buffer. -/
def start (c : Dev nD) : sProp 𝕄 := iprop((∃ K, ghost m ρ K c) ∗ credits c)

def Φ₀ (c : Dev nD) : sProp 𝕄 := iprop(start m ρ c ∗ ∃ f, stPts c Finset.univ f)
/-- What it ends with, besides them: its scratch buffer, its cells' counters at zero. -/
def Φ₁ (c : Dev nD) : sProp 𝕄 :=
  iprop(stPts c Finset.univ (stageF m ρ c) ∗ (bigSep Finset.univ fun k : Xfer => semVal (cell c (some k)) 0) ∗ semVal (cell c none) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A staging buffer of device `c`, whole, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop((ghost m ρ K c ∗ credits c ∗ ∃ f, stPts c Finset.univ f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outF m ρ c))

omit [FloatOps F] in
theorem stAny_of (c : Dev nD) (S) (f : (cc0_scratch0 : Ref sig .tc).ty.Contents (Elt F)) : stPts c S f ⊢ stAny (F := F) c S := by
  unfold stAny; iintro H; iexists f; iexact H
omit [FloatOps F] in
theorem outAny_of (c : Dev nD) (S) (f : (cc0_stg1_0 : Ref sig .tc).ty.Contents (Elt F)) : outPts c S f ⊢ outAny (F := F) c S := by
  unfold outAny; iintro H; iexists f; iexact H

omit [FloatOps F] in
theorem out_whole (c : Dev nD) (f : (cc0_stg1_0 : Ref sig .tc).ty.Contents (Elt F)) :
    (((c : Thread nD τ).loc cc0_stg1_0) ↦{fullShare} f : sProp 𝕄) = outPts c Finset.univ f := rfl

omit [FloatOps F] in
/-- The chunks of the scratch buffer, with whatever it holds. -/
theorem stage_any (c : Dev nD) (f : (cc0_scratch0 : Ref sig .tc).ty.Contents (Elt F)) :
    stPts c Finset.univ f ⊢ bigSep Finset.univ fun j : Fin 16 => stAny (F := F) c (stageR j).set := by
  rw [stage_parts]
  exact bigSep_mono fun j _ => stAny_of c _ f

omit [FloatOps F] in
/-- Chunks of the result, with whatever it holds. -/
theorem out_any (c d : Dev nD) (f : (cc0_stg1_0 : Ref sig .tc).ty.Contents (Elt F)) :
    (bigSep Finset.univ fun j : Fin 16 => outPts (F := F) c (fwdR d j).set f) ⊢ bigSep Finset.univ fun j : Fin 16 => outAny (F := F) c (fwdR d j).set :=
  bigSep_mono fun j _ => outAny_of c _ f

set_option maxHeartbeats 800000 in
/-- The body, from `bodyPre` to `bodyPost`. -/
theorem sound_body (c : Dev nD) (Kt : PUnit → sProp 𝕄) :
    iprop(bodyPre m ρ K c ∗ (bodyPost m ρ c -∗ Kt ⟨⟩))
      ⊢ run c (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  rw [body_looped]
  unfold looped run
  simp only [semSignalWord, Prog.lift, Prog.bind_op, Prog.bind_ret, Prog.pure_eq_ret, wp_deviceId]
  unfold bodyPre ghost
  iintro ⟨⟨⟨⟨#HK, HatB, Hat, HtX, HtY, Hpays⟩, Hcr, ⟨%f0, Hst⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  ihave Hst := (stage_any c f0) $$ Hst
  ihave Hout := (Entails.of_eq (out_whole c g1)) $$ Hout
  ihave Hout := (Entails.of_eq (out_parts c g1)) $$ Hout
  icases Hout with ⟨Hown, Hfx, Hfy⟩
  ihave Hfx := (out_any c c g1) $$ Hfx
  ihave Hfy := (out_any c (yp c) g1) $$ Hfy
  -- the signal across x
  iapply (Rounds.wp_signal 𝒱₀ ER (sched m ρ) (c : Thread nD τ) none (dst := (xp c : Thread nD τ)) (κ := K (xp c, none))
      (d := false) (by rw [duties_bar]; exact Finset.mem_univ _) ((amount_bar m ρ (xp c) false).trans (by decide)) () (O₁ c) rfl)
    $$ [HO HtX Hfx]
  · isplitr; · iapply (known_inv m ρ K (xp c) none) $$ HK
    isplitl [HO]; · iexact HO
    isplitl [HtX]; · iexact HtX
    isplitl [Hfx]; · rw [payload_bar, barPay_x]; iexact Hfx
    iapply (known_reached m ρ K (xp c) none) $$ HK
  iintro HO
  -- the signal across y
  iapply (Rounds.wp_signal 𝒱₀ ER (sched m ρ) (c : Thread nD τ) none (dst := (yp c : Thread nD τ)) (κ := K (yp c, none))
      (d := true) (by rw [duties_bar]; exact Finset.mem_univ _) ((amount_bar m ρ (yp c) true).trans (by decide)) () (owedShip c all) rfl)
    $$ [HO HtY Hfy]
  · isplitr; · iapply (known_inv m ρ K (yp c) none) $$ HK
    isplitl [HO]; · iexact HO
    isplitl [HtY]; · iexact HtY
    isplitl [Hfy]; · rw [payload_bar, barPay_y]; iexact Hfy
    iapply (known_reached m ρ K (yp c) none) $$ HK
  iintro HO
  iapply (wp_phases m ρ K c Kt)
  isplitl [Hst Hx Hown HatB Hat Hpays Hcr HO]
  · unfold phasesPre xPts owing outAny
    isplitr; · iexact HK
    isplitl [Hst]; · iexact Hst
    isplitl [Hx]; · iexact Hx
    isplitl [Hown]; · iexists g1; iexact Hown
    isplitl [HatB]; · iexact HatB
    isplitl [Hat]; · iexact Hat
    isplitl [Hpays]; · iexact Hpays
    isplitl [Hcr]; · iexact Hcr
    iexists W; iexact HO
  unfold phasesPost xPts owing run
  iintro ⟨Hst, Hx, Hout, HatB, Hat, ⟨%W', HO⟩⟩
  rw [Prog.pure_eq_ret, wp_ret]
  imod (close_all m ρ K c) $$ [Hat] with Hz
  · isplitr; · iexact HK
    iexact Hat
  imod (Rounds.cell_close ER (sched m ρ) (Set.mem_univ (K (c, none))) (fun h => h) (R := 0 + 1) (duties_later m ρ (cell c none))) $$ [HatB] with HzB
  · isplitr; · iapply (known_inv m ρ K c none) $$ HK
    iexact HatB
  imodintro
  iapply Hk
  unfold bodyPost Φ₁ Dat.owesAt Pipeline.owesWithin
  rw [show (dats m ρ 0 c).owed t₀.succ = 0 from rfl]
  isplitl [Hst Hz HzB]
  · isplitl [Hst]; · iexact Hst
    isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  unfold outPts
  iexact Hout

set_option maxRecDepth 20000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 20000 in
/-- The pipeline's one grid point on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ run c
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre' Φ₀ start
  iintro ⟨⟨⟨⟨%K, Hg⟩, Hcr⟩, Hst⟩, Ho, Hx, Hout⟩
  iapply (sound_body m ρ K c fun _ => bodyPost m ρ c)
  unfold bodyPre
  isplitr []
  · isplitl [Hg Hcr Hst]
    · isplitl [Hg]; · iexact Hg
      isplitl [Hcr] <;> iassumption
    isplitl [Ho]; · iexact Ho
    isplitl [Hx] <;> iassumption
  · iintro H; iexact H

end Cert.KernelIdealProof

end
-- ==== Proof.KernelIdealLaunch.lean ====
/-
# The launch

Every device's cells are set up before any body starts: the rounds' ghost state is made, each cell becomes an invariant,
and the rights to pay are dealt to the devices that pay. What every device owes at launch is what others may wait for.
From these and the body on one device, the whole program runs.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide +kernel

theorem share_eq (c : Dev nD) (w : Fin cfg0.W) : (dats m ρ 0 c).share w = fullShare := by unfold Dat.share; split <;> rfl

abbrev kcell (ck : Dev nD × Key) : GSem nD τ sig := cell ck.1 ck.2
theorem kcell_injective : Function.Injective kcell := fun _ _ h => Prod.ext (cell_inj h).1 (cell_inj h).2
def kernelCells : Finset (GSem nD τ sig) := Finset.univ.map ⟨kcell, kcell_injective⟩

/-- The tokens of device `c`: two of its barrier cell, one of each transfer cell. -/
abbrev tokOf (cd : Dev nD × (Bool ⊕ Xfer)) : GSem nD τ sig × ℕ × Bool := match cd.2 with
  | .inl b => (cell cd.1 none, 0, b)
  | .inr k => (cell cd.1 (some k), 0, false)
theorem tokOf_injective : Function.Injective tokOf := by
  rintro ⟨c, b | k⟩ ⟨c', b' | k'⟩ h
  · have hc : c = c' := (cell_inj (congrArg Prod.fst h)).1
    have hb : b = b' := congrArg (fun x : GSem nD τ sig × ℕ × Bool => x.2.2) h
    rw [hc, hb]
  · exact absurd (cell_inj (congrArg Prod.fst h)).2 (by intro e; cases e)
  · exact absurd (cell_inj (congrArg Prod.fst h)).2 (by intro e; cases e)
  · have hc : c = c' := (cell_inj (congrArg Prod.fst h)).1
    have hk : some k = some k' := (cell_inj (congrArg Prod.fst h)).2
    rw [hc, Option.some.inj hk]
def kernelToks : Finset (GSem nD τ sig × ℕ × Bool) := Finset.univ.map ⟨tokOf, tokOf_injective⟩

def u₀ : UU :=
  (initOf (Pipeline.cells cfgs cellOf_inj) (Pipeline.launchToks cfgs cellOf_inj), initOf kernelCells kernelToks)

omit [FloatOps F] in
/-- Over all cells of a device: the barrier's and the transfers'. -/
theorem key_split (Φ : Key → sProp 𝕄) : bigSep Finset.univ Φ = iprop(Φ none ∗ bigSep Finset.univ fun k : Xfer => Φ (some k)) := by
  have hr : (Finset.univ : Finset Key).erase none = Finset.univ.map Function.Embedding.some := by
    ext k; cases k <;> simp
  rw [bigSep_univ_at Φ none, hr, bigSep_map]; rfl

omit [FloatOps F] in
theorem bool_split (Φ : Bool → sProp 𝕄) : bigSep Finset.univ Φ = iprop(Φ false ∗ Φ true) :=
  bigSep_univ_eq_bigSepL [false, true] (by decide) (by decide) Φ

/-- The tokens of device `c`'s own cells. -/
def toks (c : Dev nD) : sProp 𝕄 :=
  iprop((dutyTok ER (cell c none) 0 false ∗ dutyTok ER (cell c none) 0 true) ∗ bigSep Finset.univ fun k : Xfer => dutyTok ER (cell c (some k)) 0 false)

/-- What the ghost state made at launch deals device `c`. -/
def G (c : Dev nD) : sProp 𝕄 :=
  iprop((bigSep Finset.univ fun k : Key => roundState ER (sched m ρ) (kcell (c, k)) 0)
    ∗ (bigSep Finset.univ fun k : Key => iprop(atPos ER (kcell (c, k)) 0 ∅ 0 ∗ reached ER (kcell (c, k)) 0)) ∗ toks c)

/-- What all devices know after the cells have become invariants. -/
def records (K : Dev nD × Key → ℕ) : sProp 𝕄 :=
  iprop((bigSep Finset.univ fun ck : Dev nD × Key => cellInv ER (sched m ρ) (K ck) (cell ck.1 ck.2))
    ∗ bigSep Finset.univ fun ck : Dev nD × Key => (reached ER (cell ck.1 ck.2) 0 : sProp 𝕄))

instance records_persistent (K : Dev nD × Key → ℕ) : BI.Persistent (records m ρ K) := by unfold records; infer_instance

/-- The tokens that device `c` pays with: on the barrier cells of its two partners, on the transfer cells as `pays` has them. -/
def payToks (c : Dev nD) : sProp 𝕄 :=
  iprop((dutyTok ER (cell (xp c) none) 0 false ∗ dutyTok ER (cell (yp c) none) 0 true) ∗ bigSep Finset.univ fun j : Fin 16 => pays c j)

/-- What is device `c`'s alone: its positions at its cells and the tokens it pays with. -/
def linear (c : Dev nD) : sProp 𝕄 := iprop((bigSep Finset.univ fun k : Key => atPos ER (cell c k) 0 ∅ 0) ∗ payToks c)

/-- What the devices together make of the ghost state. -/
def G' (c : Dev nD) : sProp 𝕄 := iprop(∃ K, records m ρ K ∗ linear c)

omit [FloatOps F] in
/-- The ghost state made at launch, dealt to the devices by the cells they own. -/
theorem fund_cells : BI.own (ER (initOf kernelCells kernelToks)) ⊢ (|==> bigSep Finset.univ (G m ρ) : sProp 𝕄) := by
  have hX (Φ : GSem nD τ sig → sProp 𝕄) : bigSep kernelCells Φ = bigSep Finset.univ fun c : Dev nD => bigSep Finset.univ fun k : Key => Φ (kcell (c, k)) := by
    unfold kernelCells; rw [bigSep_map, bigSep_univ_prod]; rfl
  have hT : bigSep kernelToks (fun x => (dutyTok ER x.1 x.2.1 x.2.2 : sProp 𝕄)) = bigSep Finset.univ fun c : Dev nD => toks c := by
    unfold kernelToks; rw [bigSep_map, bigSep_univ_prod]
    refine bigSep_congr fun c _ => ?_
    rw [BI.bigSep_univ_sum, bool_split]; rfl
  iintro HX
  imod (Rounds.fund ER (sched m ρ) kernelCells kernelToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the cells of the transfers; -/
theorem ownSems0_eq (c : Dev nD) : (Pipeline.ownSems0 (Ix := Unit) (Name := ℕ) (U := UU) (Lvl := ℕ) (Val := Elt F) (τ := τ) osem c : sProp 𝕄)
    = bigSep Finset.univ fun k : Xfer => semVal (cell c (some k)) 0 := rfl
omit [FloatOps F] in
/-- the barrier semaphore is the one that outlives it. -/
theorem unscopedSems0_eq (c : Dev nD) : (unscopedSems0 c : sProp 𝕄) = semVal (cell c none) 0 := by
  unfold unscopedSems0; rw [bigSep_eq_bigSepL_of_eq [SemLoc.reg barS] (by decide) (by decide)]; rfl

omit [FloatOps F] in
/-- A device's counters at zero and its cells' ghost state make its cells invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  ihave Hv := (Entails.of_eq (key_split (F := F) fun k => semVal (kcell (c, k)) 0).symm) $$ [Hos Hus]
  · isplitl [Hus] <;> iassumption
  imod (show iprop((bigSep Finset.univ fun k : Key => semVal (kcell (c, k)) 0) ∗ bigSep Finset.univ fun k : Key => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Tokens by the device that owns the cell are tokens by the device that pays: across x and across y. -/
theorem toks_around : (bigSep Finset.univ fun c : Dev nD => (toks c : sProp 𝕄)) ⊢ bigSep Finset.univ fun c : Dev nD => payToks c := by
  unfold toks payToks pays
  simp only [rows_eq, bigSep_sep']
  rw [bigSep_univ_equiv acrossX (fun c : Dev nD => (dutyTok ER (cell c none) 0 false : sProp 𝕄)),
    bigSep_univ_equiv acrossY (fun c : Dev nD => (dutyTok ER (cell c none) 0 true : sProp 𝕄)),
    bigSep_univ_equiv acrossX (fun c : Dev nD => bigSep Finset.univ fun j : Fin 16 => pay (F := F) c 1 j),
    bigSep_univ_equiv acrossY (fun c : Dev nD => bigSep Finset.univ fun j : Fin 16 => pay (F := F) c 3 j)]
  exact Entails.of_eq rfl

omit [FloatOps F] in
/-- From every device's invariants, positions and tokens, each device's start. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  simp only [bigSep_sep']
  rw [← bigSep_univ_prod (fun ck : Dev nD × Key => iprop(∃ κ : ℕ, cellInv ER (sched m ρ) κ (kcell ck))),
    ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) (Φ := fun c => linear c) fun c _ =>
    (show iprop(records m ρ K ∗ linear c) ⊢ G' m ρ c from by unfold G'; iintro H; iexists K; iexact H))
  isplitr
  · unfold records; isplitl; · iexact HI
    iexact HR
  · unfold linear; rw [bigSep_sep']
    isplitl [Hat]; · iexact Hat
    iexact Htk

omit [FloatOps F] in
/-- All devices at once: counters and ghost state become every device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at launch, by whom it is waited for -/

omit [FloatOps F] in
/-- If every device owes `n` to the cell `k` of its partner, every device may wait for `n` at its own. -/
theorem cred_partner (f : Dev nD → Dev nD) (hf : ∀ d, f (f d) = d) (k : Key) (n : ℕ) (c : Dev nD) :
    (Pipeline.launchCred (fun d => tallyAt (cell (f d) k) () n) c : sProp 𝕄) ⊢ cred (tallyAt (cell c k) () n) := by
  refine (Pipeline.launchCred_elim _ c (csem k)).trans (Entails.of_eq (congrArg cred ?_))
  show tallyOn (cell c k) _ = _
  unfold tallyAt; refine congrArg _ (Finsupp.ext fun u => ?_); cases u
  rw [show (((c : Dev nD).tc : Thread nD τ), csem k) = cell c k from rfl, Pipeline.launchCredit_owing, Finsupp.single_eq_same]
  rw [Finset.sum_eq_single (f c)]
  · show tallyAt (cell (f (f c)) k) () n (cell c k) () = n
    rw [hf, tallyAt_apply, if_pos ⟨rfl, rfl⟩]
  · intro d _ hd
    show tallyAt (cell (f d) k) () n (cell c k) () = 0
    rw [tallyAt_apply, if_neg]
    rintro ⟨h, -⟩
    exact hd (by rw [(cell_inj h).1, hf])
  · exact fun h => absurd (Finset.mem_univ _) h

omit [FloatOps F] in
/-- So for a row of transfers. -/
theorem cred_row (f : Dev nD → Dev nD) (hf : ∀ d, f (f d) = d) (r : Fin 4) (c : Dev nD) : ∀ l : List (Fin 16),
    (Pipeline.launchCred (fun d => owedRow (f d) r l) c : sProp 𝕄) ⊢ each (fun j => due c r j) l
  | [] => by
    show _ ⊢ iprop(emp)
    iintro -
    iempintro
  | j :: l => by
    show (Pipeline.launchCred (fun d => owedRow (f d) r l + tallyAt (cell (f d) (some (r, j))) () N) c : sProp 𝕄) ⊢ iprop(due c r j ∗ each (fun j => due c r j) l)
    rw [Pipeline.launchCred_add]
    iintro ⟨H1, H2⟩
    isplitl [H2]
    · iapply (cred_partner f hf (some (r, j)) N c); iexact H2
    · iapply (cred_row f hf r c l); iexact H1

omit [FloatOps F] in
/-- All that a device may wait for. -/
theorem creds (c : Dev nD) : (Pipeline.launchCred O₀ c : sProp 𝕄) ⊢ credits c := by
  have h : (O₀ : Dev nD → CellTallies nD τ sig Unit) = fun d =>
      ((owedRow (yp d) 3 all + owedRow (xp d) 1 all) + tallyAt (cell (yp d) none) () 1) + tallyAt (cell (xp d) none) () 1 := rfl
  rw [h, Pipeline.launchCred_add, Pipeline.launchCred_add, Pipeline.launchCred_add]
  unfold credits
  rw [bigSep_sep', ← each_all (fun j => due (F := F) c 1 j), ← each_all (fun j => due (F := F) c 3 j), ← tallyAt_add (cell c none) () 1 1]
  iintro ⟨⟨⟨H3, H1⟩, HY⟩, HX⟩
  isplitl [HY HX]
  · iapply (cred_add _ _).2
    isplitl [HY]
    · iapply (cred_partner yp yp_yp none 1 c); iexact HY
    · iapply (cred_partner xp xp_xp none 1 c); iexact HX
  isplitl [H1]
  · iapply (cred_row xp xp_xp 1 c all); iexact H1
  · iapply (cred_row yp yp_yp 3 c all); iexact H3

/-! ## The conditions of the launch theorem -/

omit [FloatOps F] in
theorem st_whole (c : Dev nD) (f : (cc0_scratch0 : Ref sig .tc).ty.Contents (Elt F)) :
    (((c : Thread nD τ).loc cc0_scratch0) ↦{fullShare} f : sProp 𝕄) = stPts c Finset.univ f := rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [← levels_eq]
  unfold start G' records linear payToks ghost known
  rw [key_split]
  iintro ⟨-, Hlev, Hcr, -, ⟨%K, ⟨HI, HR⟩, ⟨HaB, Ha⟩, ⟨HtX, HtY⟩, Ht⟩⟩
  imodintro
  isplitl
  · isplitr [Hcr]
    · iexists K
      isplitl [HI HR Hlev]
      · isplitl [HI]; · iexact HI
        isplitl [HR]; · iexact HR
        iexact Hlev
      isplitl [HaB]; · iexact HaB
      isplitl [Ha]; · iexact Ha
      isplitl [HtX]; · iexact HtX
      isplitl [HtY]; · iexact HtY
      iexact Ht
    · iapply (creds (F := F) c); iexact Hcr
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f
  iapply (Entails.of_eq (st_whole c f)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, Hz, HzB⟩
  isplitl [HzB]; · iexact HzB
  isplitl [Hz]; · iexact Hz
  iexists (stageF m ρ c)
  iapply (Entails.of_eq (st_whole c (stageF m ρ c)).symm); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- On the mesh of 32 devices, from any memory with all counters at zero and for any float values: every fair execution of
    the program ends without fault, with both arrays of every device at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealValue.lean ====
/-
# What the result is

The argument is cut by rows over the two places along x, the result by columns. Whatever the whole argument, if every
device begins with its block of rows, every device's result ends as its block of columns of the same array.
-/
module

public import proofs.«01_k».proof.Proof.KernelIdealLaunch
public import Idealize.ShloMosaic.Lib.Pipeline.ValueKit
public import Idealize.ShloMosaic.Lib.Layout

@[expose] public section

set_option backward.proofsInPublic true

noncomputable section

namespace Cert.KernelIdealProof

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The result array ends holding what the body leaves in its staging buffer. -/
theorem finalA_out (c : Dev nD) : finalA m ρ c (1 : Fin 2) = outF m ρ c := by
  refine (dats m ρ 0 c).arrAt_eq_of_after_last (1 : Fin 2) t₀ (by decide +kernel) _ fun j => ?_
  rfl

omit [FloatOps F] in
/-- The staged block is the argument's. -/
theorem xstg_eq (c : Dev nD) (i : S2048x1024.Idx) : xstg m ρ c i = m ((c : Thread nD τ).loc main_arg0) i := by
  show m ((c : Thread nD τ).loc main_arg0) ((win0_0.blk (0 : Fin 1)).view.emb i) = _
  refine congrArg (m ((c : Thread nD τ).loc main_arg0)) (funext fun a => Fin.ext ?_)
  blk_simp
  fin_cases a <;> simp <;> rfl

abbrev rowsOf (c : Dev nD) := Layout.meshBlock [2, 4, 4] ![[0], []] c
abbrev colsOf (c : Dev nD) := Layout.meshBlock [2, 4, 4] ![[], [0]] c

/-- Along the axis that is cut, device `c`'s block is its place along x. -/
theorem lin_x (c : Dev nD) : Layout.meshLin [2, 4, 4] c.val [0] = cx c := by revert c; decide

/-- The rows of the upper half of the result come from place 0 along x, those of the lower half from place 1. -/
theorem cx_src (c : Dev nD) {r : ℕ} (hr : r < 4096) : cx (src c r) = r / 2048 := by
  have h1 := cx_lt c
  unfold src
  split
  · next h => exact h.symm
  · next h =>
    split
    · rw [cx_xp]; omega
    · rw [cx_xp, cx_yp]; omega

variable (A : (⟨2, ![4096, 1024]⟩ : Shape).Idx → Elt F .bf16)
variable (hA : ∀ c : Dev nD, m ((c : Thread nD τ).loc main_arg0) = Layout.blockN ⟨2, ![2048, 1024]⟩ ⟨2, ![4096, 1024]⟩ (rowsOf c) A)
include hA

omit [FloatOps F] in
/-- An entry of device `c`'s block is the whole array's, `2048` rows further on for each place along x. -/
theorem xAt_eq (c : Dev nD) (r q : ℕ) (hr : r < 2048) (hq : q < 1024) :
    xAt m ρ c r q = A (at2 4096 1024 (by decide) (by decide) (2048 * cx c + r) q) := by
  unfold xAt
  rw [xstg_eq, hA, Layout.blockN_apply]
  refine congrArg A (funext fun a => Fin.ext ?_)
  have h1 := cx_lt c
  have hl := lin_x c
  rw [Layout.TilesN.idx_val]
  fin_cases a
  · show Layout.meshLin [2, 4, 4] c.val [0] * 2048 + r % 2048 = (2048 * cx c + r) % 4096
    omega
  · show 0 * 1024 + q % 1024 = q % 1024
    omega

/-- Every device's result ends as its block of columns of the whole array. -/
theorem result_block (c : Dev nD) :
    finalA m ρ c (1 : Fin 2) = Layout.blockN ⟨2, ![4096, 512]⟩ ⟨2, ![4096, 1024]⟩ (colsOf c) A := by
  rw [finalA_out]
  funext i
  have h0 : (i 0).val < 4096 := (i 0).isLt
  have h1 : (i 1).val < 512 := (i 1).isLt
  have hc := cx_lt c
  have hl := lin_x c
  show xAt m ρ (src c (i 0).val) ((i 0).val % 2048) (512 * cx c + (i 1).val) = _
  rw [xAt_eq m ρ A hA _ _ _ (Nat.mod_lt _ (by decide)) (by omega), cx_src c h0, Layout.blockN_apply]
  refine congrArg A (funext fun a => Fin.ext ?_)
  rw [Layout.TilesN.idx_val]
  fin_cases a
  · show (2048 * ((i 0).val / 2048) + (i 0).val % 2048) % 4096 = 0 * 4096 + (i 0).val
    omega
  · show (512 * cx c + (i 1).val) % 1024 = Layout.meshLin [2, 4, 4] c.val [0] * 512 + (i 1).val
    omega

end Cert.KernelIdealProof

end
-- ==== Proof.Whole.lean ====
/-
# The reference

The reference returns its argument, so its program is empty: it ends at once in the memory it began with.
-/
module

public import proofs.«01_k».proof.Proof.Gen.ReferenceIdeal
public import Idealize.ShloMosaic.Lib.StableHlo.Run
public import Idealize.ShloMosaic.Lib.Quiescent

@[expose] public section

noncomputable section

namespace Cert.ReferenceIdealProof

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The program's only array keeps its contents, and there is no semaphore. -/
theorem run : θ_run (defs (F := F)) (onTc (τ := τ) (main (F := F))) ⟨m, fun _ => 0, ρ⟩ fun r =>
    (∀ d : Dev nD, r.2.mem ((d.tc : Thread nD τ).loc main_arg0) = m ((d.tc : Thread nD τ).loc main_arg0)) ∧ r.2.sem = fun _ => 0 :=
  (θ_run (defs (F := F)) _ _).mono (fun r h => ⟨fun d => h d main_arg0, sem_eq_zero_of_no_sems (by decide) r.2⟩)
    (StableHlo.run_seq (by decide) (by decide) defs main (fun _ => []) (fun _ => rfl) (fun _ => trivial) m ρ)

end Cert.ReferenceIdealProof

end
-- ==== Proof.lean ====
/-
# The claims

Frames: the run of `Proof/KernelLaunch.lean` and its twin at the ideal instance, with the values dropped; the reference's
empty run. The value: every device's result is its block of columns of the array whose block of rows it began with.
-/
module

public import proofs.«01_k».proof.Defs
public import proofs.«01_k».proof.Proof.KernelLaunch
public import proofs.«01_k».proof.Proof.KernelIdealValue
public import proofs.«01_k».proof.Proof.Whole

@[expose] public section

noncomputable section

namespace Cert.Proof

open Idealize.ShloMosaic Idealize.SL.Sem

/-- The kernel terminates without fault, its argument unchanged, every counter at zero. -/
theorem frame_kernel : Cert.quiescent_Kernel := by
  intro m ρ _
  exact (θ_run Cert.Kernel.defs _ _).mono (fun _ h => ⟨fun c => (h.1 c (0 : Fin 2)).trans (Cert.KernelProof.finalA_x m ρ c), h.2⟩)
    (Cert.KernelProof.run_main (F := Bits) m ρ)

/-- So does the kernel over the extended reals; -/
theorem frame_kernelIdeal : Cert.quiescent_KernelIdeal := by
  intro m ρ _
  exact (θ_run Cert.KernelIdeal.defs _ _).mono (fun _ h => ⟨fun c => (h.1 c (0 : Fin 2)).trans (Cert.KernelIdealProof.finalA_x m ρ c), h.2⟩)
    (Cert.KernelIdealProof.run_main (F := Ideal) m ρ)

/-- and the reference. -/
theorem frame_reference : Cert.quiescent_ReferenceIdeal :=
  fun m ρ _ => Cert.ReferenceIdealProof.run (F := Ideal) m ρ

/-- Kernel and reference compute the same function: each device's result is its block of the reference's. -/
theorem value : Cert.algebraic_KernelIdeal_ReferenceIdeal := by
  intro m ρ m' ρ' _ hA
  refine ⟨m' _, ?_, ?_⟩
  · exact (θ_run Cert.KernelIdeal.defs _ _).mono
      (fun _ h c => ⟨(h.1 c (1 : Fin 2)).trans (Cert.KernelIdealProof.result_block m ρ _ hA c),
        (h.1 c (0 : Fin 2)).trans (Cert.KernelIdealProof.finalA_x m ρ c)⟩)
      (Cert.KernelIdealProof.run_main (F := Ideal) m ρ)
  · exact (θ_run Cert.ReferenceIdeal.defs _ _).mono (fun _ h => ⟨h.1 0, h.1 0⟩) (Cert.ReferenceIdealProof.run (F := Ideal) m' ρ')

theorem claim : Cert.Claim := ⟨Cert.Kernel.Gen.facts, Cert.KernelIdeal.Gen.facts, Cert.ReferenceIdeal.Gen.facts,
  frame_kernel, frame_kernelIdeal, frame_reference, trivial, value⟩

end Cert.Proof

end
